-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantiser (m : (ℓ : Loc Cert.Quantiser.nD Cert.Quantiser.τ Cert.Quantiser.sig) → Buf (Elt Bits) ℓ) : Prop :=
  True

def Pre_QuantiserReference (m : (ℓ : Loc Cert.QuantiserReference.nD Cert.QuantiserReference.τ Cert.QuantiserReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Quantiser [hQuantiser : Cert.Quantiser.Facts] : Prop :=
  ∀ (m : (ℓ : Loc Cert.Quantiser.nD Cert.Quantiser.τ Cert.Quantiser.sig) → Buf (Elt Bits) ℓ) (g : Dev Cert.Quantiser.nD → PrngReg), Pre_Quantiser m →
    θ_run (Cert.Quantiser.defs (F := Bits)) (onTc (τ := Cert.Quantiser.τ) (Cert.Quantiser.main (F := Bits))) ⟨m, fun _ => 0, g⟩ (fun r => (∀ c : Dev Cert.Quantiser.nD,
      r.2.mem ((c.tc : Thread Cert.Quantiser.nD Cert.Quantiser.τ).loc Cert.Quantiser.main_arg0) = m ((c.tc : Thread Cert.Quantiser.nD Cert.Quantiser.τ).loc Cert.Quantiser.main_arg0))
      ∧ r.2.sem = fun _ => 0)

def quiescent_QuantiserReference [hQuantiserReference : Cert.QuantiserReference.Facts] : Prop :=
  ∀ (m : (ℓ : Loc Cert.QuantiserReference.nD Cert.QuantiserReference.τ Cert.QuantiserReference.sig) → Buf (Elt Bits) ℓ) (g : Dev Cert.QuantiserReference.nD → PrngReg), Pre_QuantiserReference m →
    θ_run (Cert.QuantiserReference.defs (F := Bits)) (onTc (τ := Cert.QuantiserReference.τ) (Cert.QuantiserReference.main (F := Bits))) ⟨m, fun _ => 0, g⟩ (fun r => (∀ c : Dev Cert.QuantiserReference.nD,
      r.2.mem ((c.tc : Thread Cert.QuantiserReference.nD Cert.QuantiserReference.τ).loc Cert.QuantiserReference.main_arg0) = m ((c.tc : Thread Cert.QuantiserReference.nD Cert.QuantiserReference.τ).loc Cert.QuantiserReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def bitexact_Quantiser_QuantiserReference [hQuantiser : Cert.Quantiser.Facts] [hQuantiserReference : Cert.QuantiserReference.Facts] : Prop :=
  ∀ (m : (ℓ : Loc Cert.Quantiser.nD Cert.Quantiser.τ Cert.Quantiser.sig) → Buf (Elt Bits) ℓ) (g : Dev Cert.Quantiser.nD → PrngReg)
    (m' : (ℓ : Loc Cert.QuantiserReference.nD Cert.QuantiserReference.τ Cert.QuantiserReference.sig) → Buf (Elt Bits) ℓ) (g' : Dev Cert.QuantiserReference.nD → PrngReg), Pre_Quantiser m →
    (∀ c : Dev Cert.Quantiser.nD,
      m' ((c.tc : Thread Cert.QuantiserReference.nD Cert.QuantiserReference.τ).loc Cert.QuantiserReference.main_arg0) = m ((c.tc : Thread Cert.Quantiser.nD Cert.Quantiser.τ).loc Cert.Quantiser.main_arg0)) →
    ∃ (v0 : (c : Dev Cert.Quantiser.nD) → Buf (Elt Bits) ((c.tc : Thread Cert.Quantiser.nD Cert.Quantiser.τ).loc Cert.Quantiser.main_v0_0)) (v1 : (c : Dev Cert.Quantiser.nD) → Buf (Elt Bits) ((c.tc : Thread Cert.Quantiser.nD Cert.Quantiser.τ).loc Cert.Quantiser.main_v0_1)) (v2 : (c : Dev Cert.Quantiser.nD) → Buf (Elt Bits) ((c.tc : Thread Cert.Quantiser.nD Cert.Quantiser.τ).loc Cert.Quantiser.main_v0_2)) (v3 : (c : Dev Cert.Quantiser.nD) → Buf (Elt Bits) ((c.tc : Thread Cert.Quantiser.nD Cert.Quantiser.τ).loc Cert.Quantiser.main_v0_3)) (v4 : (c : Dev Cert.Quantiser.nD) → Buf (Elt Bits) ((c.tc : Thread Cert.Quantiser.nD Cert.Quantiser.τ).loc Cert.Quantiser.main_v0_4)) (v5 : (c : Dev Cert.Quantiser.nD) → Buf (Elt Bits) ((c.tc : Thread Cert.Quantiser.nD Cert.Quantiser.τ).loc Cert.Quantiser.main_v0_5)),
      θ_run (Cert.Quantiser.defs (F := Bits)) (onTc (τ := Cert.Quantiser.τ) (Cert.Quantiser.main (F := Bits))) ⟨m, fun _ => 0, g⟩ (fun r => ∀ c : Dev Cert.Quantiser.nD,
          r.2.mem ((c.tc : Thread Cert.Quantiser.nD Cert.Quantiser.τ).loc Cert.Quantiser.main_v0_0) = v0 c
          ∧ r.2.mem ((c.tc : Thread Cert.Quantiser.nD Cert.Quantiser.τ).loc Cert.Quantiser.main_v0_1) = v1 c
          ∧ r.2.mem ((c.tc : Thread Cert.Quantiser.nD Cert.Quantiser.τ).loc Cert.Quantiser.main_v0_2) = v2 c
          ∧ r.2.mem ((c.tc : Thread Cert.Quantiser.nD Cert.Quantiser.τ).loc Cert.Quantiser.main_v0_3) = v3 c
          ∧ r.2.mem ((c.tc : Thread Cert.Quantiser.nD Cert.Quantiser.τ).loc Cert.Quantiser.main_v0_4) = v4 c
          ∧ r.2.mem ((c.tc : Thread Cert.Quantiser.nD Cert.Quantiser.τ).loc Cert.Quantiser.main_v0_5) = v5 c
          ∧ r.2.mem ((c.tc : Thread Cert.Quantiser.nD Cert.Quantiser.τ).loc Cert.Quantiser.main_arg0) = m ((c.tc : Thread Cert.Quantiser.nD Cert.Quantiser.τ).loc Cert.Quantiser.main_arg0))
      ∧ θ_run (Cert.QuantiserReference.defs (F := Bits)) (onTc (τ := Cert.QuantiserReference.τ) (Cert.QuantiserReference.main (F := Bits))) ⟨m', fun _ => 0, g'⟩ (fun r => ∀ c : Dev Cert.QuantiserReference.nD,
          r.2.mem ((c.tc : Thread Cert.QuantiserReference.nD Cert.QuantiserReference.τ).loc Cert.QuantiserReference.main_v0_0) = v0 c
          ∧ r.2.mem ((c.tc : Thread Cert.QuantiserReference.nD Cert.QuantiserReference.τ).loc Cert.QuantiserReference.main_v0_1) = v1 c
          ∧ r.2.mem ((c.tc : Thread Cert.QuantiserReference.nD Cert.QuantiserReference.τ).loc Cert.QuantiserReference.main_v0_2) = v2 c
          ∧ r.2.mem ((c.tc : Thread Cert.QuantiserReference.nD Cert.QuantiserReference.τ).loc Cert.QuantiserReference.main_v0_3) = v3 c
          ∧ r.2.mem ((c.tc : Thread Cert.QuantiserReference.nD Cert.QuantiserReference.τ).loc Cert.QuantiserReference.main_v0_4) = v4 c
          ∧ r.2.mem ((c.tc : Thread Cert.QuantiserReference.nD Cert.QuantiserReference.τ).loc Cert.QuantiserReference.main_v0_5) = v5 c
          ∧ r.2.mem ((c.tc : Thread Cert.QuantiserReference.nD Cert.QuantiserReference.τ).loc Cert.QuantiserReference.main_arg0) = m' ((c.tc : Thread Cert.QuantiserReference.nD Cert.QuantiserReference.τ).loc Cert.QuantiserReference.main_arg0))

def Claim : Prop :=
  ∃ (hKernel : Cert.Kernel.Facts) (hKernelIdeal : Cert.KernelIdeal.Facts) (hReferenceIdeal : Cert.ReferenceIdeal.Facts) (hQuantiser : Cert.Quantiser.Facts) (hQuantiserReference : Cert.QuantiserReference.Facts),
    quiescent_Kernel (hKernel := hKernel)
    ∧ quiescent_KernelIdeal (hKernelIdeal := hKernelIdeal)
    ∧ quiescent_ReferenceIdeal (hReferenceIdeal := hReferenceIdeal)
    ∧ quiescent_Quantiser (hQuantiser := hQuantiser)
    ∧ quiescent_QuantiserReference (hQuantiserReference := hQuantiserReference)
    ∧ preserves_Kernel_KernelIdeal
    ∧ algebraic_KernelIdeal_ReferenceIdeal (hKernelIdeal := hKernelIdeal) (hReferenceIdeal := hReferenceIdeal)
    ∧ bitexact_Quantiser_QuantiserReference (hQuantiser := hQuantiser) (hQuantiserReference := hQuantiserReference)
-- ==== Kernel.lean ====
abbrev S8192x10240 : Shape := ⟨2, ![8192, 10240]⟩
abbrev S8192x7168 : Shape := ⟨2, ![8192, 7168]⟩
abbrev S8x1024x7168 : Shape := ⟨3, ![8, 1024, 7168]⟩
abbrev S256x7168 : Shape := ⟨2, ![256, 7168]⟩
abbrev S8x1024x5120 : Shape := ⟨3, ![8, 1024, 5120]⟩
abbrev S256x5120 : Shape := ⟨2, ![256, 5120]⟩
abbrev S7168x10240 : Shape := ⟨2, ![7168, 10240]⟩
abbrev S7168x320 : Shape := ⟨2, ![7168, 320]⟩
abbrev S8192x5120 : Shape := ⟨2, ![8192, 5120]⟩
abbrev S256x10240 : Shape := ⟨2, ![256, 10240]⟩
abbrev S256x320 : Shape := ⟨2, ![256, 320]⟩
abbrev S320x256 : Shape := ⟨2, ![320, 256]⟩
abbrev S8x256 : Shape := ⟨2, ![8, 256]⟩
abbrev S8x1x256 : Shape := ⟨3, ![8, 1, 256]⟩
abbrev S8x32x256 : Shape := ⟨3, ![8, 32, 256]⟩
abbrev S256x256 : Shape := ⟨2, ![256, 256]⟩
abbrev S8x7168 : Shape := ⟨2, ![8, 7168]⟩
abbrev S8x32x7168 : Shape := ⟨3, ![8, 32, 7168]⟩
abbrev S8x1x7168 : Shape := ⟨3, ![8, 1, 7168]⟩
abbrev S8x5120 : Shape := ⟨2, ![8, 5120]⟩
abbrev S8x32x5120 : Shape := ⟨3, ![8, 32, 5120]⟩
abbrev S8x1x5120 : Shape := ⟨3, ![8, 1, 5120]⟩
abbrev S1024x2048 : Shape := ⟨2, ![1024, 2048]⟩
abbrev S1024x1024 : Shape := ⟨2, ![1024, 1024]⟩
abbrev S2048x1024 : Shape := ⟨2, ![2048, 1024]⟩
abbrev S5120x7168 : Shape := ⟨2, ![5120, 7168]⟩

abbrev nBuf : Space → Nat
  | .hbm => 18
  | .vmem => 39
  | .smem => 0
  | _ => 0

abbrev bufTy : (tb : Table) → Fin (tcTables nBuf tb) → BufTy
  | .hbm, ⟨0, _⟩ => ⟨S8192x10240, .bf16⟩
  | .hbm, ⟨1, _⟩ => ⟨S8192x10240, .bf16⟩
  | .hbm, ⟨2, _⟩ => ⟨S8192x7168, .bf16⟩
  | .hbm, ⟨3, _⟩ => ⟨S8x1024x7168, .fp8e4m3⟩
  | .hbm, ⟨4, _⟩ => ⟨S256x7168, .f32⟩
  | .hbm, ⟨5, _⟩ => ⟨S8x1024x5120, .fp8e4m3⟩
  | .hbm, ⟨6, _⟩ => ⟨S256x5120, .f32⟩
  | .hbm, ⟨7, _⟩ => ⟨S7168x10240, .fp8e4m3⟩
  | .hbm, ⟨8, _⟩ => ⟨S7168x320, .f32⟩
  | .hbm, ⟨9, _⟩ => ⟨S8192x7168, .fp8e4m3⟩
  | .hbm, ⟨10, _⟩ => ⟨S8192x5120, .fp8e4m3⟩
  | .hbm, ⟨11, _⟩ => ⟨S7168x10240, .bf16⟩
  | .hbm, ⟨12, _⟩ => ⟨S8192x7168, .bf16⟩
  | .hbm, ⟨13, _⟩ => ⟨S8192x5120, .bf16⟩
  | .hbm, ⟨14, _⟩ => ⟨S8192x7168, .bf16⟩
  | .hbm, ⟨15, _⟩ => ⟨S7168x10240, .bf16⟩
  | .hbm, ⟨16, _⟩ => ⟨S5120x7168, .bf16⟩
  | .hbm, ⟨17, _⟩ => ⟨S8x1024x7168, .bf16⟩
  | .local _ .vmem, ⟨0, _⟩ => ⟨S256x10240, .fp8e4m3⟩
  | .local _ .vmem, ⟨1, _⟩ => ⟨S256x10240, .fp8e4m3⟩
  | .local _ .vmem, ⟨2, _⟩ => ⟨S256x320, .f32⟩
  | .local _ .vmem, ⟨3, _⟩ => ⟨S256x320, .f32⟩
  | .local _ .vmem, ⟨4, _⟩ => ⟨S256x10240, .bf16⟩
  | .local _ .vmem, ⟨5, _⟩ => ⟨S256x10240, .bf16⟩
  | .local _ .vmem, ⟨6, _⟩ => ⟨S256x7168, .fp8e4m3⟩
  | .local _ .vmem, ⟨7, _⟩ => ⟨S256x7168, .fp8e4m3⟩
  | .local _ .vmem, ⟨8, _⟩ => ⟨S8x7168, .f32⟩
  | .local _ .vmem, ⟨9, _⟩ => ⟨S8x7168, .f32⟩
  | .local _ .vmem, ⟨10, _⟩ => ⟨S256x7168, .bf16⟩
  | .local _ .vmem, ⟨11, _⟩ => ⟨S256x7168, .bf16⟩
  | .local _ .vmem, ⟨12, _⟩ => ⟨S256x5120, .fp8e4m3⟩
  | .local _ .vmem, ⟨13, _⟩ => ⟨S256x5120, .fp8e4m3⟩
  | .local _ .vmem, ⟨14, _⟩ => ⟨S8x5120, .f32⟩
  | .local _ .vmem, ⟨15, _⟩ => ⟨S8x5120, .f32⟩
  | .local _ .vmem, ⟨16, _⟩ => ⟨S256x5120, .bf16⟩
  | .local _ .vmem, ⟨17, _⟩ => ⟨S256x5120, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S2048x1024, .bf16⟩
  | .local _ .vmem, ⟨26, _⟩ => ⟨S2048x1024, .bf16⟩
  | .local _ .vmem, ⟨27, _⟩ => ⟨S2048x1024, .bf16⟩
  | .local _ .vmem, ⟨28, _⟩ => ⟨S2048x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10240 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x10240 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x7168 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x7168 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x5120 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x5120 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x5120 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 7, 5], ![false, false, false]⟩

def k3_cond2 (i : grid3.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![7, 10, 4], ![false, false, false]⟩

def k4_cond2 (i : grid4.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![5, 7, 4], ![false, false, false]⟩

def k5_cond2 (i : grid5.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ReferenceIdeal.lean ====
abbrev S8192x10240 : Shape := ⟨2, ![8192, 10240]⟩
abbrev S8192x7168 : Shape := ⟨2, ![8192, 7168]⟩
abbrev S8x1024x7168 : Shape := ⟨3, ![8, 1024, 7168]⟩
abbrev S256x7168 : Shape := ⟨2, ![256, 7168]⟩
abbrev S8x1024x5120 : Shape := ⟨3, ![8, 1024, 5120]⟩
abbrev S256x5120 : Shape := ⟨2, ![256, 5120]⟩
abbrev S7168x10240 : Shape := ⟨2, ![7168, 10240]⟩
abbrev S7168x320 : Shape := ⟨2, ![7168, 320]⟩
abbrev S5120x7168 : Shape := ⟨2, ![5120, 7168]⟩
abbrev S7168x320x32 : Shape := ⟨3, ![7168, 320, 32]⟩
abbrev S7168x320x1 : Shape := ⟨3, ![7168, 320, 1]⟩
abbrev S256x32x7168 : Shape := ⟨3, ![256, 32, 7168]⟩
abbrev S256x1x7168 : Shape := ⟨3, ![256, 1, 7168]⟩
abbrev S8192x5120 : Shape := ⟨2, ![8192, 5120]⟩
abbrev S256x32x5120 : Shape := ⟨3, ![256, 32, 5120]⟩
abbrev S256x1x5120 : Shape := ⟨3, ![256, 1, 5120]⟩

abbrev nBuf : Space → Nat
  | .hbm => 12
  | .vmem => 12
  | .smem => 0
  | _ => 0

abbrev bufTy : (tb : Table) → Fin (tcTables nBuf tb) → BufTy
  | .hbm, ⟨0, _⟩ => ⟨S8192x10240, .bf16⟩
  | .hbm, ⟨1, _⟩ => ⟨S8192x10240, .bf16⟩
  | .hbm, ⟨2, _⟩ => ⟨S8192x7168, .bf16⟩
  | .hbm, ⟨3, _⟩ => ⟨S8x1024x7168, .fp8e4m3⟩
  | .hbm, ⟨4, _⟩ => ⟨S256x7168, .f32⟩
  | .hbm, ⟨5, _⟩ => ⟨S8x1024x5120, .fp8e4m3⟩
  | .hbm, ⟨6, _⟩ => ⟨S256x5120, .f32⟩
  | .hbm, ⟨7, _⟩ => ⟨S7168x10240, .fp8e4m3⟩
  | .hbm, ⟨8, _⟩ => ⟨S7168x320, .f32⟩
  | .hbm, ⟨9, _⟩ => ⟨S8x1024x7168, .bf16⟩
  | .hbm, ⟨10, _⟩ => ⟨S7168x10240, .bf16⟩
  | .hbm, ⟨11, _⟩ => ⟨S5120x7168, .bf16⟩
  | .local _ .vmem, ⟨0, _⟩ => ⟨S8192x10240, .bf16⟩
  | .local _ .vmem, ⟨1, _⟩ => ⟨S8192x10240, .bf16⟩
  | .local _ .vmem, ⟨2, _⟩ => ⟨S8192x7168, .bf16⟩
  | .local _ .vmem, ⟨3, _⟩ => ⟨S8x1024x7168, .fp8e4m3⟩
  | .local _ .vmem, ⟨4, _⟩ => ⟨S256x7168, .f32⟩
  | .local _ .vmem, ⟨5, _⟩ => ⟨S8x1024x5120, .fp8e4m3⟩
  | .local _ .vmem, ⟨6, _⟩ => ⟨S256x5120, .f32⟩
  | .local _ .vmem, ⟨7, _⟩ => ⟨S7168x10240, .fp8e4m3⟩
  | .local _ .vmem, ⟨8, _⟩ => ⟨S7168x320, .f32⟩
  | .local _ .vmem, ⟨9, _⟩ => ⟨S8x1024x7168, .bf16⟩
  | .local _ .vmem, ⟨10, _⟩ => ⟨S7168x10240, .bf16⟩
  | .local _ .vmem, ⟨11, _⟩ => ⟨S5120x7168, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x10240 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1024x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168x10240 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5120x7168 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Quantiser.lean ====
abbrev S8192x7168 : Shape := ⟨2, ![8192, 7168]⟩
abbrev S8192x224 : Shape := ⟨2, ![8192, 224]⟩
abbrev S256x7168 : Shape := ⟨2, ![256, 7168]⟩
abbrev S256x224 : Shape := ⟨2, ![256, 224]⟩
abbrev S8x7168 : Shape := ⟨2, ![8, 7168]⟩
abbrev S256x256 : Shape := ⟨2, ![256, 256]⟩
abbrev S8x32x256 : Shape := ⟨3, ![8, 32, 256]⟩
abbrev S8x256 : Shape := ⟨2, ![8, 256]⟩
abbrev S8x1x256 : Shape := ⟨3, ![8, 1, 256]⟩
abbrev S224x256 : Shape := ⟨2, ![224, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x7168, .bf16⟩
  | .hbm, ⟨1, _⟩ => ⟨S8192x7168, .fp8e4m3⟩
  | .hbm, ⟨2, _⟩ => ⟨S8192x224, .f32⟩
  | .hbm, ⟨3, _⟩ => ⟨S8192x7168, .fp8e4m3⟩
  | .hbm, ⟨4, _⟩ => ⟨S256x7168, .f32⟩
  | .hbm, ⟨5, _⟩ => ⟨S8192x7168, .bf16⟩
  | .hbm, ⟨6, _⟩ => ⟨S8192x7168, .bf16⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S256x7168, .fp8e4m3⟩
  | .local _ .vmem, ⟨4, _⟩ => ⟨S256x224, .f32⟩
  | .local _ .vmem, ⟨5, _⟩ => ⟨S256x224, .f32⟩
  | .local _ .vmem, ⟨6, _⟩ => ⟨S256x7168, .fp8e4m3⟩
  | .local _ .vmem, ⟨7, _⟩ => ⟨S256x7168, .fp8e4m3⟩
  | .local _ .vmem, ⟨8, _⟩ => ⟨S8x7168, .f32⟩
  | .local _ .vmem, ⟨9, _⟩ => ⟨S8x7168, .f32⟩
  | .local _ .vmem, ⟨10, _⟩ => ⟨S256x7168, .bf16⟩
  | .local _ .vmem, ⟨11, _⟩ => ⟨S256x7168, .bf16⟩
  | .local _ .vmem, ⟨12, _⟩ => ⟨S256x7168, .bf16⟩
  | .local _ .vmem, ⟨13, _⟩ => ⟨S256x7168, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantiserReference.lean ====
abbrev S8192x7168 : Shape := ⟨2, ![8192, 7168]⟩
abbrev S8192x224 : Shape := ⟨2, ![8192, 224]⟩
abbrev S256x7168 : Shape := ⟨2, ![256, 7168]⟩
abbrev S8192x224x32 : Shape := ⟨3, ![8192, 224, 32]⟩
abbrev S8192x224x1 : Shape := ⟨3, ![8192, 224, 1]⟩
abbrev S256x32x7168 : Shape := ⟨3, ![256, 32, 7168]⟩
abbrev S256x1x7168 : Shape := ⟨3, ![256, 1, 7168]⟩

abbrev nBuf : Space → Nat
  | .hbm => 7
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S8192x7168, .fp8e4m3⟩
  | .hbm, ⟨2, _⟩ => ⟨S8192x224, .f32⟩
  | .hbm, ⟨3, _⟩ => ⟨S8192x7168, .fp8e4m3⟩
  | .hbm, ⟨4, _⟩ => ⟨S256x7168, .f32⟩
  | .hbm, ⟨5, _⟩ => ⟨S8192x7168, .bf16⟩
  | .hbm, ⟨6, _⟩ => ⟨S8192x7168, .bf16⟩
  | .local _ .vmem, ⟨0, _⟩ => ⟨S8192x7168, .bf16⟩
  | .local _ .vmem, ⟨1, _⟩ => ⟨S8192x7168, .fp8e4m3⟩
  | .local _ .vmem, ⟨2, _⟩ => ⟨S8192x224, .f32⟩
  | .local _ .vmem, ⟨3, _⟩ => ⟨S8192x7168, .fp8e4m3⟩
  | .local _ .vmem, ⟨4, _⟩ => ⟨S256x7168, .f32⟩
  | .local _ .vmem, ⟨5, _⟩ => ⟨S8192x7168, .bf16⟩
  | .local _ .vmem, ⟨6, _⟩ => ⟨S8192x7168, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Mm.Body.lean ====
/- The body of the three matrix-product calls, once: an accumulator in scratch memory is cleared when the first condition
   holds, the product of the two input blocks is added to it, and it is rounded into the output block when the second holds. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Exec
public import Idealize.ShloMosaic.Lib.Pipeline.Kit

@[expose] public section

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-- The body with its input blocks' shapes, its two conditions and its step `pay` as parameters. -/
def body {sa sb : Shape} (oa : Fin sa.rank → ℕ) (ia : ∀ a, oa a + sa.size a ≤ sa.size a) (ha : 0 < sa.numel)
    (ob : Fin sb.rank → ℕ) (ib : ∀ a, ob a + sb.size a ≤ sb.size a) (hb : 0 < sb.numel)
    (zero : FVec F S1024x1024 .f32) (pay : Vec F S1024x1024 .f32 → Vec F sa .bf16 → Vec F sb .bf16 → FVec F S1024x1024 .f32)
    (fin : Vec F S1024x1024 .f32 → FVec F S1024x1024 .bf16) (c1 c2 : BitVec 1)
    (arg3 : Memref sig .tc .vmem sa .bf16) (arg4 : Memref sig .tc .vmem sb .bf16)
    (arg5 : Memref sig .tc .vmem S1024x1024 .bf16) (harg5 : arg5.IsWhole) (arg6 : Memref sig .tc .vmem S1024x1024 .f32) :
    Prog (TpuEff nD τ sig (Elt F) Λ₀ .tc) PUnit := do
  if h1 : c1 = 1#1 then do
    let v16 : Vec F S1024x1024 .f32 ← Prog.lift (.load arg6 (Rect.unit (s := S1024x1024) ![0, 0] S1024x1024.size inb_S1024x1024_S1024x1024_0_0).toLoadRect (View.loadsAt_vmem h_S1024x1024))
    Prog.lift (.store arg6 (Rect.unit (s := S1024x1024) ![0, 0] S1024x1024.size inb_S1024x1024_S1024x1024_0_0) zero Finset.univ (View.stores_vmem_bits_univ h_S1024x1024 rfl) (.inl rfl))
    pure ⟨⟩
  else do
    pure ⟨⟩
  let v3 : Vec F S1024x1024 .f32 ← Prog.lift (.load arg6 (Rect.unit (s := S1024x1024) ![0, 0] S1024x1024.size inb_S1024x1024_S1024x1024_0_0).toLoadRect (View.loadsAt_vmem h_S1024x1024))
  let v4 : Vec F sa .bf16 ← Prog.lift (.load arg3 (Rect.unit (s := sa) oa sa.size ia).toLoadRect (View.loadsAt_vmem ha))
  let v5 : Vec F sb .bf16 ← Prog.lift (.load arg4 (Rect.unit (s := sb) ob sb.size ib).toLoadRect (View.loadsAt_vmem hb))
  let v9 : Vec F S1024x1024 .f32 ← Prog.lift (.load arg6 (Rect.unit (s := S1024x1024) ![0, 0] S1024x1024.size inb_S1024x1024_S1024x1024_0_0).toLoadRect (View.loadsAt_vmem h_S1024x1024))
  Prog.lift (.store arg6 (Rect.unit (s := S1024x1024) ![0, 0] S1024x1024.size inb_S1024x1024_S1024x1024_0_0) (pay v3 v4 v5) Finset.univ (View.stores_vmem_bits_univ h_S1024x1024 rfl) (.inl rfl))
  if h2 : c2 = 1#1 then do
    let v15 : Vec F S1024x1024 .f32 ← Prog.lift (.load arg6 (Rect.unit (s := S1024x1024) ![0, 0] S1024x1024.size inb_S1024x1024_S1024x1024_0_0).toLoadRect (View.loadsAt_vmem h_S1024x1024))
    let v17 : Vec F S1024x1024 .bf16 ← Prog.lift (.load arg5 (Rect.unit (s := S1024x1024) ![0, 0] S1024x1024.size inb_S1024x1024_S1024x1024_0_0).toLoadRect (View.loadsAt_vmem h_S1024x1024))
    Prog.lift (.store arg5 (Rect.unit (s := S1024x1024) ![0, 0] S1024x1024.size inb_S1024x1024_S1024x1024_0_0) (fin v15) Finset.univ (View.stores_vmem h_S1024x1024 (harg5.storeExact_slice rfl _ packedbf16_S1024x1024_S1024x1024_0_0) (fun _ => rfl)) (.inl rfl))
    pure ⟨⟩
  else do
    pure ⟨⟩
  pure ⟨⟩

/-- The second condition's word at a grid point of the calls, as printed. -/
abbrev firstWord (k : ℕ) : BitVec 1 := Scalar.cmpi .ne (Scalar.extui (Scalar.cmpi .eq (BitVec.ofNat 32 k) 0#32)) 0#32

section
variable {sa sb : Shape} (oa : Fin sa.rank → ℕ) (ia : ∀ a, oa a + sa.size a ≤ sa.size a) (ha : 0 < sa.numel)
    (ob : Fin sb.rank → ℕ) (ib : ∀ a, ob a + sb.size a ≤ sb.size a) (hb : 0 < sb.numel)
    (zero : FVec F S1024x1024 .f32) (pay : Vec F S1024x1024 .f32 → Vec F sa .bf16 → Vec F sb .bf16 → FVec F S1024x1024 .f32)
    (fin : Vec F S1024x1024 .f32 → FVec F S1024x1024 .bf16) (c1 c2 : BitVec 1)
    (arg3 : Memref sig .tc .vmem sa .bf16) (harg3 : arg3.IsWhole) (arg4 : Memref sig .tc .vmem sb .bf16) (harg4 : arg4.IsWhole)
    (arg5 : Memref sig .tc .vmem S1024x1024 .bf16) (harg5 : arg5.IsWhole) (arg6 : Memref sig .tc .vmem S1024x1024 .f32) (harg6 : arg6.IsWhole)
    (𝒱₀ : Variants) (c : Dev nD) (x0 : Vec F sa .bf16) (x1 : Vec F sb .bf16)

include harg3 harg4 harg5 harg6

set_option maxHeartbeats 1000000 in
/-- At the first block of a sum (and not the last): the accumulator ends at the first product, the output block untouched. -/
theorem run_first (hc1 : c1 = 1#1) (hc2 : ¬ c2 = 1#1) (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (pay zero x0 x1)) -∗ K ⟨⟩))
      ⊢ wp frame (wpE (defs₀ (F := F)) 𝒱₀ c none) E (body oa ia ha ob ib hb zero pay fin c1 c2 arg3 arg4 arg5 harg5 arg6) K := by
  unfold body
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  refine (View.read_writes_full _ _ _ _ _).trans ?_
  rw [View.readAt_full, View.readAt_full, harg3.read_unread, harg4.read_unread]
  exact congrArg (fun z => pay z x0 x1) (View.readCov_full _ _ _ _ _)

set_option maxHeartbeats 1000000 in
/-- Between the first and the last block of a sum: the product is added to the accumulator, the output block untouched. -/
theorem run_mid (hc1 : ¬ c1 = 1#1) (hc2 : ¬ c2 = 1#1) (acc : Vec F S1024x1024 .f32) (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare acc
        ∗ (iprop(owns (c : Thread nD τ) arg3 fullShare x0 ∗ owns (c : Thread nD τ) arg4 fullShare x1 ∗ owns (c : Thread nD τ) arg5 fullShare xi
            ∗ owns (c : Thread nD τ) arg6 fullShare (pay acc x0 x1)) -∗ K ⟨⟩))
      ⊢ wp frame (wpE (defs₀ (F := F)) 𝒱₀ c none) E (body oa ia ha ob ib hb zero pay fin c1 c2 arg3 arg4 arg5 harg5 arg6) K := by
  unfold body
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2
  obtain rfl := harg6.eq_unread hfs0
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  refine (View.read_writes_full _ _ _ _ _).trans ?_
  rw [View.readAt_full, View.readAt_full, View.readAt_full, harg3.read_unread, harg4.read_unread, harg6.read_unread]

set_option maxHeartbeats 1000000 in
/-- At the last block of a sum: the product is added to the accumulator, and the output block ends at the accumulator rounded. -/
theorem run_last (hc1 : ¬ c1 = 1#1) (hc2 : c2 = 1#1) (acc : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare acc
        ∗ (iprop(owns (c : Thread nD τ) arg3 fullShare x0 ∗ owns (c : Thread nD τ) arg4 fullShare x1
            ∗ owns (c : Thread nD τ) arg5 fullShare (fin (pay acc x0 x1))
            ∗ owns (c : Thread nD τ) arg6 fullShare (pay acc x0 x1)) -∗ K ⟨⟩))
      ⊢ wp frame (wpE (defs₀ (F := F)) 𝒱₀ c none) E (body oa ia ha ob ib hb zero pay fin c1 c2 arg3 arg4 arg5 harg5 arg6) K := by
  unfold body
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1
  obtain rfl := harg6.eq_unread hfs0
  sl_exec (disch := first | sl_exact hc1 | sl_exact hc2)
  sl_step
  iapply Hk
  have hacc : pay (View.readAt (Elt F) arg6.view (Rect.unit ![0, 0] S1024x1024.size inb_S1024x1024_S1024x1024_0_0).toLoadRect (harg6.unread acc))
      (View.readAt (Elt F) arg3.view (Rect.unit oa sa.size ia).toLoadRect (harg3.unread x0))
      (View.readAt (Elt F) arg4.view (Rect.unit ob sb.size ib).toLoadRect (harg4.unread x1)) = pay acc x0 x1 := by
    rw [View.readAt_full, View.readAt_full, View.readAt_full, harg3.read_unread, harg4.read_unread, harg6.read_unread]
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    refine (View.read_writes_full _ _ _ _ _).trans ?_
    exact congrArg fin ((View.readCov_full _ _ _ _ _).trans hacc)
  iexists _; isplitr
  swap; · iexact HS0
  ipureintro
  exact (View.read_writes_full _ _ _ _ _).trans hacc
end

/-! ## The accumulator, point by point -/

/-- What the accumulator holds after the body at position `n`: the step from zero where a sum begins (`n` divisible by `nk`), and from
    what the point before left elsewhere. -/
def acc {sa sb : Shape} {N : ℕ} (nk : ℕ) (zero : FVec F S1024x1024 .f32)
    (pay : Vec F S1024x1024 .f32 → Vec F sa .bf16 → Vec F sb .bf16 → FVec F S1024x1024 .f32)
    (X0 : Fin N → Vec F sa .bf16) (X1 : Fin N → Vec F sb .bf16) : (n : ℕ) → n < N → Vec F S1024x1024 .f32
  | 0, h => pay zero (X0 ⟨0, h⟩) (X1 ⟨0, h⟩)
  | n + 1, h => pay (if (n + 1) % nk = 0 then zero else acc nk zero pay X0 X1 n (Nat.lt_of_succ_lt h)) (X0 ⟨n + 1, h⟩) (X1 ⟨n + 1, h⟩)

section
variable {sa sb : Shape} {N : ℕ} (nk : ℕ) (zero : FVec F S1024x1024 .f32)
    (pay : Vec F S1024x1024 .f32 → Vec F sa .bf16 → Vec F sb .bf16 → FVec F S1024x1024 .f32)
    (X0 : Fin N → Vec F sa .bf16) (X1 : Fin N → Vec F sb .bf16)

/-- Where a sum begins the accumulator ends at the first step. -/
theorem acc_first (n : ℕ) (h : n < N) (h0 : n % nk = 0) :
    acc nk zero pay X0 X1 n h = pay zero (X0 ⟨n, h⟩) (X1 ⟨n, h⟩) := by
  cases n with
  | zero => rfl
  | succ n => exact congrArg (fun z => pay z _ _) (if_pos h0)

/-- Elsewhere it is one step from what the point before left. -/
theorem acc_next (n : ℕ) (h : n + 1 < N) (h0 : ¬ (n + 1) % nk = 0) :
    acc nk zero pay X0 X1 (n + 1) h = pay (acc nk zero pay X0 X1 n (Nat.lt_of_succ_lt h)) (X0 ⟨n + 1, h⟩) (X1 ⟨n + 1, h⟩) :=
  congrArg (fun z => pay z _ _) (if_neg h0)

variable (arg6 : Memref sig .tc .vmem S1024x1024 .f32) (c : Dev nD)

/-- The invariant before position `n`: the accumulator's buffer at what the point before left (at anything before the first), and `B`. -/
def Phi (R : sProp 𝕄) : (n : ℕ) → n ≤ N → sProp 𝕄
  | 0, _ => iprop((∃ d, owns (c : Thread nD τ) arg6 fullShare d) ∗ R)
  | n + 1, h => iprop(owns (c : Thread nD τ) arg6 fullShare (acc nk zero pay X0 X1 n h) ∗ R)

/-- The named contents forgotten. -/
theorem Phi_any (R : sProp 𝕄) (n : ℕ) (h : n ≤ N) :
    Phi nk zero pay X0 X1 arg6 c R n h ⊢ (iprop((∃ d, owns (c : Thread nD τ) arg6 fullShare d) ∗ R) : sProp 𝕄) := by
  cases n with
  | zero => exact .rfl
  | succ n =>
    unfold Phi
    iintro ⟨H, HR⟩
    isplitl [H]
    · iexists _; iexact H
    iexact HR

end

section
variable {sa sb : Shape} (oa : Fin sa.rank → ℕ) (ia : ∀ a, oa a + sa.size a ≤ sa.size a) (ha : 0 < sa.numel)
    (ob : Fin sb.rank → ℕ) (ib : ∀ a, ob a + sb.size a ≤ sb.size a) (hb : 0 < sb.numel)
    {N : ℕ} (nk : ℕ) (hnk : 1 < nk) (zero : FVec F S1024x1024 .f32) (pay : Vec F S1024x1024 .f32 → Vec F sa .bf16 → Vec F sb .bf16 → FVec F S1024x1024 .f32)
    (fin : Vec F S1024x1024 .f32 → FVec F S1024x1024 .bf16)
    (X0 : Fin N → Vec F sa .bf16) (X1 : Fin N → Vec F sb .bf16) (c1 c2 : BitVec 1)
    (arg3 : Memref sig .tc .vmem sa .bf16) (harg3 : arg3.IsWhole) (arg4 : Memref sig .tc .vmem sb .bf16) (harg4 : arg4.IsWhole)
    (arg5 : Memref sig .tc .vmem S1024x1024 .bf16) (harg5 : arg5.IsWhole) (arg6 : Memref sig .tc .vmem S1024x1024 .f32) (harg6 : arg6.IsWhole)
    (𝒱₀ : Variants) (c : Dev nD) (t : Fin N)
    (hc1 : c1 = 1#1 ↔ t.val % nk = 0) (hc2 : c2 = 1#1 ↔ t.val % nk = nk - 1)

include harg3 harg4 harg5 harg6 hnk hc1 hc2

/-- The body at a point that does not end a sum, between the invariant before it and after it: the output block is not touched. -/
theorem step_idle (R O : sProp 𝕄) (hl : ¬ t.val % nk = nk - 1) {α : Type} (g : α → Vec F S1024x1024 .bf16) :
    iprop(Phi nk zero pay X0 X1 arg6 c R t.val (Nat.le_of_lt t.isLt) ∗ O ∗ owns (c : Thread nD τ) arg3 fullShare (X0 t)
        ∗ owns (c : Thread nD τ) arg4 fullShare (X1 t) ∗ (∃ d, owns (c : Thread nD τ) arg5 fullShare (g d)))
      ⊢ wp frame (wpE (defs₀ (F := F)) 𝒱₀ c none) Set.univ (body oa ia ha ob ib hb zero pay fin c1 c2 arg3 arg4 arg5 harg5 arg6)
          (fun _ => iprop(Phi nk zero pay X0 X1 arg6 c R (t.val + 1) t.isLt ∗ O ∗ owns (c : Thread nD τ) arg3 fullShare (X0 t)
            ∗ owns (c : Thread nD τ) arg4 fullShare (X1 t) ∗ (∃ d, owns (c : Thread nD τ) arg5 fullShare (g d)))) := by
  have hn2 : ¬ c2 = 1#1 := fun h => hl (hc2.mp h)
  obtain ⟨n, hn⟩ := t
  dsimp only at *
  show _ ⊢ wp frame (wpE (defs₀ (F := F)) 𝒱₀ c none) Set.univ _ (fun _ => iprop((owns (c : Thread nD τ) arg6 fullShare (acc nk zero pay X0 X1 n hn) ∗ R) ∗ _))
  by_cases h0 : n % nk = 0
  · rw [acc_first nk zero pay X0 X1 n hn h0]
    iintro ⟨HΦ, Ho, H0, H1, ⟨%d, H2⟩⟩
    ihave HΦ' := (Phi_any nk zero pay X0 X1 arg6 c R n (Nat.le_of_lt hn)) $$ HΦ
    icases HΦ' with ⟨HS, HR⟩
    iapply (run_first oa ia ha ob ib hb zero pay fin c1 c2 arg3 harg3 arg4 harg4 arg5 harg5 arg6 harg6 𝒱₀ c (X0 ⟨n, hn⟩) (X1 ⟨n, hn⟩) (hc1.mpr h0) hn2 (g d) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexists _; iexact H2
  · cases n with
    | zero => exact absurd (Nat.zero_mod _) h0
    | succ n =>
      rw [acc_next nk zero pay X0 X1 n hn h0]
      unfold Phi
      iintro ⟨⟨HS, HR⟩, Ho, H0, H1, ⟨%d, H2⟩⟩
      iapply (run_mid oa ia ha ob ib hb zero pay fin c1 c2 arg3 harg3 arg4 harg4 arg5 harg5 arg6 harg6 𝒱₀ c (X0 ⟨n + 1, hn⟩) (X1 ⟨n + 1, hn⟩) (fun h => h0 (hc1.mp h)) hn2 _ (g d) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The body at a point that ends a sum: the output block ends at the accumulator rounded. -/
theorem step_last (R O : sProp 𝕄) (hl : t.val % nk = nk - 1) (xi : Vec F S1024x1024 .bf16) :
    iprop(Phi nk zero pay X0 X1 arg6 c R t.val (Nat.le_of_lt t.isLt) ∗ O ∗ owns (c : Thread nD τ) arg3 fullShare (X0 t)
        ∗ owns (c : Thread nD τ) arg4 fullShare (X1 t) ∗ owns (c : Thread nD τ) arg5 fullShare xi)
      ⊢ wp frame (wpE (defs₀ (F := F)) 𝒱₀ c none) Set.univ (body oa ia ha ob ib hb zero pay fin c1 c2 arg3 arg4 arg5 harg5 arg6)
          (fun _ => iprop(Phi nk zero pay X0 X1 arg6 c R (t.val + 1) t.isLt ∗ O ∗ owns (c : Thread nD τ) arg3 fullShare (X0 t)
            ∗ owns (c : Thread nD τ) arg4 fullShare (X1 t)
            ∗ owns (c : Thread nD τ) arg5 fullShare (fin (acc nk zero pay X0 X1 t.val t.isLt)))) := by
  have h2 : c2 = 1#1 := hc2.mpr hl
  have h0 : ¬ t.val % nk = 0 := by omega
  obtain ⟨n, hn⟩ := t
  dsimp only at *
  show _ ⊢ wp frame (wpE (defs₀ (F := F)) 𝒱₀ c none) Set.univ _ (fun _ => iprop((owns (c : Thread nD τ) arg6 fullShare (acc nk zero pay X0 X1 n hn) ∗ R) ∗ _))
  cases n with
  | zero => exact absurd (Nat.zero_mod _) h0
  | succ n =>
    rw [acc_next nk zero pay X0 X1 n hn h0]
    unfold Phi
    iintro ⟨⟨HS, HR⟩, Ho, H0, H1, H2⟩
    iapply (run_last oa ia ha ob ib hb zero pay fin c1 c2 arg3 harg3 arg4 harg4 arg5 harg5 arg6 harg6 𝒱₀ c (X0 ⟨n + 1, hn⟩) (X1 ⟨n + 1, hn⟩) (fun h => h0 (hc1.mp h)) h2 _ Set.univ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2

end

/-- Call 3's body (the product for dX) is `body` at its shapes. -/
theorem cc3_eq (i : grid3.Coords) (arg3 : Memref sig .tc .vmem S1024x2048 .bf16) (harg3 : arg3.IsWhole) (arg4 : Memref sig .tc .vmem S1024x2048 .bf16) (harg4 : arg4.IsWhole)
    (arg5 : Memref sig .tc .vmem S1024x1024 .bf16) (harg5 : arg5.IsWhole) (arg6 : Memref sig .tc .vmem S1024x1024 .f32) (harg6 : arg6.IsWhole) :
    cc3_mm_dx (F := F) i arg3 harg3 arg4 harg4 arg5 harg5 arg6 harg6
      = body ![0, 0] inb_S1024x2048_S1024x2048_0_0 h_S1024x2048 ![0, 0] inb_S1024x2048_S1024x2048_0_0 h_S1024x2048
          k3_pay1 k3_pay2 k3_pay3 (firstWord (i 2).val) (k3_cond2 i) arg3 arg4 arg5 harg5 arg6 := rfl

/-- Call 4's body (the product for dW1) is `body` at its shapes. -/
theorem cc4_eq (i : grid4.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1024x1024 .f32) (harg6 : arg6.IsWhole) :
    cc4_mm_dw1 (F := F) i arg3 harg3 arg4 harg4 arg5 harg5 arg6 harg6
      = body ![0, 0] inb_S2048x1024_S2048x1024_0_0 h_S2048x1024 ![0, 0] inb_S2048x1024_S2048x1024_0_0 h_S2048x1024
          k4_pay1 k4_pay2 k4_pay3 (firstWord (i 2).val) (k4_cond2 i) arg3 arg4 arg5 harg5 arg6 := rfl

/-- Call 5's body (the product for dW2) is `body` at its shapes. -/
theorem cc5_eq (i : grid5.Coords) (arg3 : Memref sig .tc .vmem S2048x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S1024x1024 .f32) (harg6 : arg6.IsWhole) :
    cc5_mm_dw2 (F := F) i arg3 harg3 arg4 harg4 arg5 harg5 arg6 harg6
      = body ![0, 0] inb_S2048x1024_S2048x1024_0_0 h_S2048x1024 ![0, 0] inb_S2048x1024_S2048x1024_0_0 h_S2048x1024
          k5_pay1 k5_pay2 k5_pay3 (firstWord (i 2).val) (k5_cond2 i) arg3 arg4 arg5 harg5 arg6 := rfl

end Cert.KernelIdeal.Mm

end
-- ==== Proof.Mm.K3.lean ====
/- Custom call 3 (the product for dX): its windows' blocks, the accumulator over its grid, the pipeline's proof data and the body obligation. -/
module

public import proofs.«01_k».proof.Proof.Mm.Body
public import proofs.«01_k».proof.Proof.Gen.KernelIdeal.Points

@[expose] public section

set_option maxRecDepth 16384

noncomputable section

namespace Cert.KernelIdeal.Mm.K3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (V : (c : Dev nD) → (b : Ref sig .tc) → Buf (Elt F) ((c : Thread nD τ).loc b)) (D : Dev nD → CellTallies nD τ sig Ix)

/-! ## The grid's points -/

/-- The first condition holds where the third coordinate is 0. -/
theorem first_iff (t : Fin cfg3.N) : firstWord (grid3.coords t 2).val = 1#1 ↔ t.val % 5 = 0 :=
  (fun t => by
    have ht : t.val < 280 := Nat.lt_of_lt_of_eq t.isLt N_3
    have e2 : (grid3.coords t 2).val = t.val / 1 % 5 := Pipeline.Grid.coords_val t 2 (by decide) rfl
    simp only [firstWord, e2]
    word_cmp
   : ∀ t : Fin grid3.N, firstWord (grid3.coords t 2).val = 1#1 ↔ t.val % 5 = 0) t

/-- The second holds where it is the last. -/
theorem last_iff (t : Fin cfg3.N) : k3_cond2 (grid3.coords t) = 1#1 ↔ t.val % 5 = 5 - 1 :=
  (fun t => by
    have ht : t.val < 280 := Nat.lt_of_lt_of_eq t.isLt N_3
    have e2 : (grid3.coords t 2).val = t.val / 1 % 5 := Pipeline.Grid.coords_val t 2 (by decide) rfl
    simp only [k3_cond2, e2]
    word_cmp
   : ∀ t : Fin grid3.N, k3_cond2 (grid3.coords t) = 1#1 ↔ t.val % 5 = 5 - 1) t

/-- The output window is idle, and not written back, at the points that do not end a sum; at the others it is live. -/
theorem idle_out : ∀ t : Fin cfg3.N, ¬ t.val % 5 = 5 - 1 → cfg3.idle 2 (grid3.coords t) = true := by decide +kernel
theorem noFlush_out : ∀ t : Fin cfg3.N, ¬ t.val % 5 = 5 - 1 → (cfg3.win 2).flush t = false := by decide +kernel
theorem live_out : ∀ t : Fin cfg3.N, t.val % 5 = 5 - 1 → cfg3.idle 2 (grid3.coords t) = false := by decide +kernel

/-! ## The windows' blocks and the accumulator -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two input blocks at point `t`. -/
abbrev X0 (c : Dev nD) (t : Fin cfg3.N) : Vec F S1024x2048 .bf16 := iblk V c 0 t
abbrev X1 (c : Dev nD) (t : Fin cfg3.N) : Vec F S1024x2048 .bf16 := iblk V c 1 t

/-- The accumulator after the body at point `n`. -/
abbrev accAt (c : Dev nD) (n : ℕ) (h : n < cfg3.N) : Vec F S1024x1024 .f32 := acc 5 k3_pay1 k3_pay2 (X0 V c) (X1 V c) n h

/-- Each window's current staging memref at point `t`, as the pipeline passes it, and the accumulator's buffer. -/
abbrev ms0 (t : Fin cfg3.N) : Memref sig .tc .vmem S1024x2048 .bf16 := win3_0.stage (cfg3.slots t 0)
abbrev ms1 (t : Fin cfg3.N) : Memref sig .tc .vmem S1024x2048 .bf16 := win3_1.stage (cfg3.slots t 1)
abbrev ms2 (t : Fin cfg3.N) : Memref sig .tc .vmem S1024x1024 .bf16 := win3_2.stage (cfg3.slots t 2)
abbrev scM : Memref sig .tc .vmem S1024x1024 .f32 := Memref.whole cc3_scratch0

/-- What rides beside the accumulator's buffer: the other scoped buffers, at anything, and the random-number register. -/
def rest (c : Dev nD) : sProp 𝕄 :=
  iprop(Pipeline.scopedRestBut (Ix := Ix) (Name := ℕ) (U := U) (Lvl := Lvl) (Val := Elt F) spec3 c [cc3_scratch0] ∗ ∃ r, prngReg c r)

/-! ## The pipeline's proof data -/

/-- The arrays as the region finds them; after the body each input's buffer at its block and the output's at the accumulator
    rounded; the invariant `Phi`; full shares; the core owing `D c`. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => k3_pay3 (accAt V c t.val t.isLt)
  Φ t := Phi 5 k3_pay1 k3_pay2 (X0 V c) (X1 V c) scM c (rest c) t.val (Nat.le_of_lt_succ t.isLt)
  q _ := fullShare
  owed _ := D c

variable (ι : Ix)

local notation "𝕕" => dat (Ix := Ix) (U := U) (Lvl := Lvl) V D

/-- The proof data's arrays are the region-entry contents. -/
theorem A_eq (c : Dev nD) (w : Fin cfg3.W) : (𝕕 c).A w = V c (Pipeline.arrRef spec3 w) := by dsimp only [dat]

/-- What the body leaves, window by window. -/
theorem after0 (c : Dev nD) (t : Fin cfg3.N) : (𝕕 c).after 0 t = iblk V c 0 t := by dsimp only [dat]
theorem after1 (c : Dev nD) (t : Fin cfg3.N) : (𝕕 c).after 1 t = iblk V c 1 t := by dsimp only [dat]
theorem after2 (c : Dev nD) (t : Fin cfg3.N) : (𝕕 c).after 2 t = k3_pay3 (accAt V c t.val t.isLt) := by dsimp only [dat]

/-- Each input's current staging buffer holds its block at every point, fetched there or not. -/
theorem before0 (c : Dev nD) (t : Fin cfg3.N) (d) : (𝕕 c).before 0 t d = iblk V c 0 t :=
  ((𝕕 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg3.N) (d) : (𝕕 c).before 1 t d = iblk V c 1 t :=
  ((𝕕 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)

/-! ## The body obligation -/

/-- What the body is called with at point `t`, -/
def bodyPre (c : Dev nD) (t : Fin cfg3.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d)))

/-- and what it returns. -/
def bodyPost (c : Dev nD) (t : Fin cfg3.N) : sProp 𝕄 :=
  iprop((𝕕 c).Φ t.succ ∗ (𝕕 c).owesAt ι t.succ
    ∗ (𝕕 c).leavesExact 0 t ∗ (𝕕 c).leavesExact 1 t ∗ (𝕕 c).leavesExact 2 t)

set_option maxHeartbeats 1000000 in
/-- The body at any point, by whether the point ends a sum. -/
theorem sound_body (𝒱₀ : Variants) (c : Dev nD) (t : Fin cfg3.N) :
    bodyPre (U := U) (Lvl := Lvl) V D ι c t ⊢ wp frame (wpE (defs₀ (F := F)) 𝒱₀ c none) Set.univ (bodyAt3 t) (fun _ => bodyPost (U := U) (Lvl := Lvl) V D ι c t) := by
  unfold bodyPre bodyPost bodyAt3
  simp only [before0, before1]
  rw [cc3_eq]
  rw [show (𝕕 c).owesAt ι t.succ = (𝕕 c).owesAt ι t.castSucc from rfl,
    show (𝕕 c).Φ t.succ = Phi 5 k3_pay1 k3_pay2 (X0 V c) (X1 V c) scM c (rest c) (t.val + 1) t.isLt from rfl,
    show (𝕕 c).Φ t.castSucc = Phi 5 k3_pay1 k3_pay2 (X0 V c) (X1 V c) scM c (rest c) t.val (Nat.le_of_lt t.isLt) from rfl,
    show (𝕕 c).leavesExact 0 t = owns (c : Thread nD τ) (ms0 t) fullShare (X0 V c t) from by
      unfold Dat.leavesExact; rw [show cfg3.idle 0 (grid3.coords t) = false from rfl, after0],
    show (𝕕 c).leavesExact 1 t = owns (c : Thread nD τ) (ms1 t) fullShare (X1 V c t) from by
      unfold Dat.leavesExact; rw [show cfg3.idle 1 (grid3.coords t) = false from rfl, after1]]
  by_cases hl : t.val % 5 = 5 - 1
  · rw [show (𝕕 c).leavesExact 2 t = owns (c : Thread nD τ) (ms2 t) fullShare (k3_pay3 (accAt V c t.val t.isLt)) from by
      unfold Dat.leavesExact; rw [live_out t hl, after2]]
    iintro ⟨HΦ, Ho, ⟨%d0, H0⟩, ⟨%d1, H1⟩, ⟨%d2, H2⟩⟩
    iapply (step_last _ _ _ _ _ _ 5 (by decide) k3_pay1 k3_pay2 k3_pay3 (X0 V c) (X1 V c) _ _ (ms0 t) (hstage3_0 _) (ms1 t) (hstage3_1 _) (ms2 t) (hstage3_2 _) scM
      (Memref.isWhole_whole _) 𝒱₀ c t (first_iff t) (last_iff t) (rest c) _ hl _)
    isplitl [HΦ]; · iexact HΦ
    isplitl [Ho]; · iexact Ho
    isplitl [H0]; · iexact H0
    isplitl [H1]; · iexact H1
    iexact H2
  · rw [Dat.leavesExact_idle (𝕕 c) 2 t (idle_out t hl) (noFlush_out t hl)]
    iintro ⟨HΦ, Ho, ⟨%d0, H0⟩, ⟨%d1, H1⟩, H2⟩
    iapply (step_idle _ _ _ _ _ _ 5 (by decide) k3_pay1 k3_pay2 k3_pay3 (X0 V c) (X1 V c) _ _ (ms0 t) (hstage3_0 _) (ms1 t) (hstage3_1 _) (ms2 t) (hstage3_2 _) scM
      (Memref.isWhole_whole _) 𝒱₀ c t (first_iff t) (last_iff t) (rest c) _ hl ((𝕕 c).before 2 t))
    isplitl [HΦ]; · iexact HΦ
    isplitl [Ho]; · iexact Ho
    isplitl [H0]; · iexact H0
    isplitl [H1]; · iexact H1
    iexact H2

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point. -/
theorem body_obligation (𝒱₀ : Variants) (c : Dev nD) : BodyObligation (𝕕 c) (defs₀ (F := F)) 𝒱₀ ι Set.univ := fun t => by
  rw [bigSep_W3, bigSep_W3, defs₀_row]
  exact triple_restated (sound_body (U := U) (Lvl := Lvl) V D ι 𝒱₀ c t) rfl .rfl fun _ => .rfl

/-- The scoped buffers and the register make the invariant before the first point, -/
theorem hin (c : Dev nD) :
    iprop(Pipeline.scopedRest (Ix := Ix) (Name := ℕ) (U := U) (Lvl := Lvl) (Val := Elt F) spec3 c ∗ ∃ r, prngReg c r) ⊢ (𝕕 c).Φ 0 := by
  rw [show (𝕕 c).Φ 0 = (iprop((∃ d, owns (c : Thread nD τ) scM fullShare d) ∗ rest c) : sProp 𝕄) from rfl, scopedRest3_split]
  simp only [scM, owns_whole]
  unfold rest
  iintro ⟨⟨HS, HB⟩, Hp⟩
  isplitl [HS]; · iexact HS
  isplitl [HB]; · iexact HB
  iexact Hp

/-- and the invariant after the last point gives them back. -/
theorem hout (c : Dev nD) :
    (𝕕 c).Φ (Fin.last cfg3.N) ⊢ (iprop(Pipeline.scopedRest (Ix := Ix) (Name := ℕ) (U := U) (Lvl := Lvl) (Val := Elt F) spec3 c ∗ ∃ r, prngReg c r) : sProp 𝕄) := by
  rw [show (𝕕 c).Φ (Fin.last cfg3.N) = Phi 5 k3_pay1 k3_pay2 (X0 V c) (X1 V c) scM c (rest c) cfg3.N (Nat.le_refl _) from rfl]
  refine (Phi_any 5 k3_pay1 k3_pay2 (X0 V c) (X1 V c) scM c (rest (F := F) (Ix := Ix) (U := U) (Lvl := Lvl) c) _ _).trans ?_
  rw [scopedRest3_split]
  simp only [scM, owns_whole]
  unfold rest
  iintro ⟨HS, HB, Hp⟩
  isplitr [Hp]
  · isplitl [HS]; · iexact HS
    iexact HB
  iexact Hp

end Cert.KernelIdeal.Mm.K3

end
-- ==== Proof.Mm.K4.lean ====
/- Custom call 4 (the product for dW1): its windows' blocks, the accumulator over its grid, the pipeline's proof data and the body obligation. -/
module

public import proofs.«01_k».proof.Proof.Mm.Body
public import proofs.«01_k».proof.Proof.Gen.KernelIdeal.Points

@[expose] public section

set_option maxRecDepth 16384

noncomputable section

namespace Cert.KernelIdeal.Mm.K4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (V : (c : Dev nD) → (b : Ref sig .tc) → Buf (Elt F) ((c : Thread nD τ).loc b)) (D : Dev nD → CellTallies nD τ sig Ix)

/-! ## The grid's points -/

/-- The first condition holds where the third coordinate is 0. -/
theorem first_iff (t : Fin cfg4.N) : firstWord (grid4.coords t 2).val = 1#1 ↔ t.val % 4 = 0 :=
  (fun t => by
    have ht : t.val < 280 := Nat.lt_of_lt_of_eq t.isLt N_4
    have e2 : (grid4.coords t 2).val = t.val / 1 % 4 := Pipeline.Grid.coords_val t 2 (by decide) rfl
    simp only [firstWord, e2]
    word_cmp
   : ∀ t : Fin grid4.N, firstWord (grid4.coords t 2).val = 1#1 ↔ t.val % 4 = 0) t

/-- The second holds where it is the last. -/
theorem last_iff (t : Fin cfg4.N) : k4_cond2 (grid4.coords t) = 1#1 ↔ t.val % 4 = 4 - 1 :=
  (fun t => by
    have ht : t.val < 280 := Nat.lt_of_lt_of_eq t.isLt N_4
    have e2 : (grid4.coords t 2).val = t.val / 1 % 4 := Pipeline.Grid.coords_val t 2 (by decide) rfl
    simp only [k4_cond2, e2]
    word_cmp
   : ∀ t : Fin grid4.N, k4_cond2 (grid4.coords t) = 1#1 ↔ t.val % 4 = 4 - 1) t

/-- The output window is idle, and not written back, at the points that do not end a sum; at the others it is live. -/
theorem idle_out : ∀ t : Fin cfg4.N, ¬ t.val % 4 = 4 - 1 → cfg4.idle 2 (grid4.coords t) = true := by decide +kernel
theorem noFlush_out : ∀ t : Fin cfg4.N, ¬ t.val % 4 = 4 - 1 → (cfg4.win 2).flush t = false := by decide +kernel
theorem live_out : ∀ t : Fin cfg4.N, t.val % 4 = 4 - 1 → cfg4.idle 2 (grid4.coords t) = false := by decide +kernel

/-! ## The windows' blocks and the accumulator -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The two input blocks at point `t`. -/
abbrev X0 (c : Dev nD) (t : Fin cfg4.N) : Vec F S2048x1024 .bf16 := iblk V c 0 t
abbrev X1 (c : Dev nD) (t : Fin cfg4.N) : Vec F S2048x1024 .bf16 := iblk V c 1 t

/-- The accumulator after the body at point `n`. -/
abbrev accAt (c : Dev nD) (n : ℕ) (h : n < cfg4.N) : Vec F S1024x1024 .f32 := acc 4 k4_pay1 k4_pay2 (X0 V c) (X1 V c) n h

/-- Each window's current staging memref at point `t`, as the pipeline passes it, and the accumulator's buffer. -/
abbrev ms0 (t : Fin cfg4.N) : Memref sig .tc .vmem S2048x1024 .bf16 := win4_0.stage (cfg4.slots t 0)
abbrev ms1 (t : Fin cfg4.N) : Memref sig .tc .vmem S2048x1024 .bf16 := win4_1.stage (cfg4.slots t 1)
abbrev ms2 (t : Fin cfg4.N) : Memref sig .tc .vmem S1024x1024 .bf16 := win4_2.stage (cfg4.slots t 2)
abbrev scM : Memref sig .tc .vmem S1024x1024 .f32 := Memref.whole cc4_scratch0

/-- What rides beside the accumulator's buffer: the other scoped buffers, at anything, and the random-number register. -/
def rest (c : Dev nD) : sProp 𝕄 :=
  iprop(Pipeline.scopedRestBut (Ix := Ix) (Name := ℕ) (U := U) (Lvl := Lvl) (Val := Elt F) spec4 c [cc4_scratch0] ∗ ∃ r, prngReg c r)

/-! ## The pipeline's proof data -/

/-- The arrays as the region finds them; after the body each input's buffer at its block and the output's at the accumulator
    rounded; the invariant `Phi`; full shares; the core owing `D c`. -/
def dat (c : Dev nD) : Dat τ (Elt F) Ix ℕ U Lvl cfg4 c where
  A w := V c (Pipeline.arrRef spec4 w)
  after w t := match w with
    | ⟨0, _⟩ => iblk V c 0 t
    | ⟨1, _⟩ => iblk V c 1 t
    | ⟨2, _⟩ => k4_pay3 (accAt V c t.val t.isLt)
  Φ t := Phi 4 k4_pay1 k4_pay2 (X0 V c) (X1 V c) scM c (rest c) t.val (Nat.le_of_lt_succ t.isLt)
  q _ := fullShare
  owed _ := D c

variable (ι : Ix)

local notation "𝕕" => dat (Ix := Ix) (U := U) (Lvl := Lvl) V D

/-- The proof data's arrays are the region-entry contents. -/
theorem A_eq (c : Dev nD) (w : Fin cfg4.W) : (𝕕 c).A w = V c (Pipeline.arrRef spec4 w) := by dsimp only [dat]

/-- What the body leaves, window by window. -/
theorem after0 (c : Dev nD) (t : Fin cfg4.N) : (𝕕 c).after 0 t = iblk V c 0 t := by dsimp only [dat]
theorem after1 (c : Dev nD) (t : Fin cfg4.N) : (𝕕 c).after 1 t = iblk V c 1 t := by dsimp only [dat]
theorem after2 (c : Dev nD) (t : Fin cfg4.N) : (𝕕 c).after 2 t = k4_pay3 (accAt V c t.val t.isLt) := by dsimp only [dat]

/-- Each input's current staging buffer holds its block at every point, fetched there or not. -/
theorem before0 (c : Dev nD) (t : Fin cfg4.N) (d) : (𝕕 c).before 0 t d = iblk V c 0 t :=
  ((𝕕 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg4.N) (d) : (𝕕 c).before 1 t d = iblk V c 1 t :=
  ((𝕕 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)

/-! ## The body obligation -/

/-- What the body is called with at point `t`, -/
def bodyPre (c : Dev nD) (t : Fin cfg4.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d)))

/-- and what it returns. -/
def bodyPost (c : Dev nD) (t : Fin cfg4.N) : sProp 𝕄 :=
  iprop((𝕕 c).Φ t.succ ∗ (𝕕 c).owesAt ι t.succ
    ∗ (𝕕 c).leavesExact 0 t ∗ (𝕕 c).leavesExact 1 t ∗ (𝕕 c).leavesExact 2 t)

set_option maxHeartbeats 1000000 in
/-- The body at any point, by whether the point ends a sum. -/
theorem sound_body (𝒱₀ : Variants) (c : Dev nD) (t : Fin cfg4.N) :
    bodyPre (U := U) (Lvl := Lvl) V D ι c t ⊢ wp frame (wpE (defs₀ (F := F)) 𝒱₀ c none) Set.univ (bodyAt4 t) (fun _ => bodyPost (U := U) (Lvl := Lvl) V D ι c t) := by
  unfold bodyPre bodyPost bodyAt4
  simp only [before0, before1]
  rw [cc4_eq]
  rw [show (𝕕 c).owesAt ι t.succ = (𝕕 c).owesAt ι t.castSucc from rfl,
    show (𝕕 c).Φ t.succ = Phi 4 k4_pay1 k4_pay2 (X0 V c) (X1 V c) scM c (rest c) (t.val + 1) t.isLt from rfl,
    show (𝕕 c).Φ t.castSucc = Phi 4 k4_pay1 k4_pay2 (X0 V c) (X1 V c) scM c (rest c) t.val (Nat.le_of_lt t.isLt) from rfl,
    show (𝕕 c).leavesExact 0 t = owns (c : Thread nD τ) (ms0 t) fullShare (X0 V c t) from by
      unfold Dat.leavesExact; rw [show cfg4.idle 0 (grid4.coords t) = false from rfl, after0],
    show (𝕕 c).leavesExact 1 t = owns (c : Thread nD τ) (ms1 t) fullShare (X1 V c t) from by
      unfold Dat.leavesExact; rw [show cfg4.idle 1 (grid4.coords t) = false from rfl, after1]]
  by_cases hl : t.val % 4 = 4 - 1
  · rw [show (𝕕 c).leavesExact 2 t = owns (c : Thread nD τ) (ms2 t) fullShare (k4_pay3 (accAt V c t.val t.isLt)) from by
      unfold Dat.leavesExact; rw [live_out t hl, after2]]
    iintro ⟨HΦ, Ho, ⟨%d0, H0⟩, ⟨%d1, H1⟩, ⟨%d2, H2⟩⟩
    iapply (step_last _ _ _ _ _ _ 4 (by decide) k4_pay1 k4_pay2 k4_pay3 (X0 V c) (X1 V c) _ _ (ms0 t) (hstage4_0 _) (ms1 t) (hstage4_1 _) (ms2 t) (hstage4_2 _) scM
      (Memref.isWhole_whole _) 𝒱₀ c t (first_iff t) (last_iff t) (rest c) _ hl _)
    isplitl [HΦ]; · iexact HΦ
    isplitl [Ho]; · iexact Ho
    isplitl [H0]; · iexact H0
    isplitl [H1]; · iexact H1
    iexact H2
  · rw [Dat.leavesExact_idle (𝕕 c) 2 t (idle_out t hl) (noFlush_out t hl)]
    iintro ⟨HΦ, Ho, ⟨%d0, H0⟩, ⟨%d1, H1⟩, H2⟩
    iapply (step_idle _ _ _ _ _ _ 4 (by decide) k4_pay1 k4_pay2 k4_pay3 (X0 V c) (X1 V c) _ _ (ms0 t) (hstage4_0 _) (ms1 t) (hstage4_1 _) (ms2 t) (hstage4_2 _) scM
      (Memref.isWhole_whole _) 𝒱₀ c t (first_iff t) (last_iff t) (rest c) _ hl ((𝕕 c).before 2 t))
    isplitl [HΦ]; · iexact HΦ
    isplitl [Ho]; · iexact Ho
    isplitl [H0]; · iexact H0
    isplitl [H1]; · iexact H1
    iexact H2

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The library's body obligation, at every point. -/
theorem body_obligation (𝒱₀ : Variants) (c : Dev nD) : BodyObligation (𝕕 c) (defs₀ (F := F)) 𝒱₀ ι Set.univ := fun t => by
  rw [bigSep_W4, bigSep_W4, defs₀_row]
  exact triple_restated (sound_body (U := U) (Lvl := Lvl) V D ι 𝒱₀ c t) rfl .rfl fun _ => .rfl

/-- The scoped buffers and the register make the invariant before the first point, -/
theorem hin (c : Dev nD) :
    iprop(Pipeline.scopedRest (Ix := Ix) (Name := ℕ) (U := U) (Lvl := Lvl) (Val := Elt F) spec4 c ∗ ∃ r, prngReg c r) ⊢ (𝕕 c).Φ 0 := by
  rw [show (𝕕 c).Φ 0 = (iprop((∃ d, owns (c : Thread nD τ) scM fullShare d) ∗ rest c) : sProp 𝕄) from rfl, scopedRest4_split]
  simp only [scM, owns_whole]
  unfold rest
  iintro ⟨⟨HS, HB⟩, Hp⟩
  isplitl [HS]; · iexact HS
  isplitl [HB]; · iexact HB
  iexact Hp

/-- and the invariant after the last point gives them back. -/
theorem hout (c : Dev nD) :
    (𝕕 c).Φ (Fin.last cfg4.N) ⊢ (iprop(Pipeline.scopedRest (Ix := Ix) (Name := ℕ) (U := U) (Lvl := Lvl) (Val := Elt F) spec4 c ∗ ∃ r, prngReg c r) : sProp 𝕄) := by
  rw [show (𝕕 c).Φ (Fin.last cfg4.N) = Phi 4 k4_pay1 k4_pay2 (X0 V c) (X1 V c) scM c (rest c) cfg4.N (Nat.le_refl _) from rfl]
  refine (Phi_any 4 k4_pay1 k4_pay2 (X0 V c) (X1 V c) scM c (rest (F := F) (Ix := Ix) (U := U) (Lvl := Lvl) c) _ _).trans ?_
  rw [scopedRest4_split]
  simp only [scM, owns_whole]
  unfold rest
  iintro ⟨HS, HB, Hp⟩
  isplitr [Hp]
  · isplitl [HS]; · iexact HS
    iexact HB
  iexact Hp

end Cert.KernelIdeal.Mm.K4

end
-- ==== Proof.Mm.K5.lean ====
/- Custom call 5 (the product for dW2): its windows' blocks, the accumulator over its grid, the pipeline's proof data and the body obligation. -/
module

public import proofs.«01_k».proof.Proof.Mm.Body
public import proofs.«01_k».proof.Proof.Gen.KernelIdeal.Points

@[expose] public section

set_option maxRecDepth 16384

noncomputable section

namespace Cert.KernelIdeal.Mm.K5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (V : (c : Dev nD) → (b : Ref sig .tc) → Buf (Elt F) ((c : Thread nD τ).loc b)) (D : Dev nD → CellTallies nD τ sig Ix)

/-! ## The grid's points -/

/-- The first condition holds where the third coordinate is 0. -/
theorem first_iff (t : Fin cfg5.N) : firstWord (grid5.coords t 2).val = 1#1 ↔ t.val % 4 = 0 :=
  (fun t => by
    have ht : t.val < 140 := Nat.lt_of_lt_of_eq t.isLt N_5
    have e2 : (grid5.coords t 2).val = t.val / 1 % 4 := Pipeline.Grid.coords_val t 2 (by decide) rfl
    simp only [firstWord, e2]
    word_cmp
   : ∀ t : Fin grid5.N, firstWord (grid5.coords t 2).val = 1#1 ↔ t.val % 4 = 0) t

/-- The second holds where it is the last. -/
theorem last_iff (t : Fin cfg5.N) : k5_cond2 (grid5.coords t) = 1#1 ↔ t.val % 4 = 4 - 1 :=
  (fun t => by
    have ht : t.val < 140 := Nat.lt_of_lt_of_eq t.isLt N_5
    have e2 : (grid5.coords t 2).val = t.val / 1 % 4 := Pipeline.Grid.coords_val t 2 (by decide) rfl
    simp only [k5_cond2, e2]
    word_cmp
   : ∀ t : Fin grid5.N, k5_cond2 (grid5.coords t) = 1#1 ↔ t.val % 4 = 4 - 1) t

/-- The output window is idle, and not written back, at the points that do not end a sum; at the others it is live. -/
theorem idle_out : ∀ t : Fin cfg5.N, ¬ t.val % 4 = 4 - 1 → cfg5.idle 2 (grid5.coords t) = true := by decide +kernel
theorem noFlush_out : ∀ t : Fin cfg5.N, ¬ t.val % 4 = 4 - 1 → (cfg5.win 2).flush t = false := by decide +kernel
theorem live_out : ∀ t : Fin cfg5.N, t.val % 4 = 4 - 1 → cfg5.idle 2 (grid5.coords t) = false := by decide +kernel

/-! ## The windows' blocks and the accumulator -/

/-- Window `w`'s block at point `t`, read off its array as the region finds it (`V`). -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The two input blocks at point `t`. -/
abbrev X0 (c : Dev nD) (t : Fin cfg5.N) : Vec F S2048x1024 .bf16 := iblk V c 0 t
abbrev X1 (c : Dev nD) (t : Fin cfg5.N) : Vec F S2048x1024 .bf16 := iblk V c 1 t

/-- The accumulator after the body at point `n`. -/
abbrev accAt (c : Dev nD) (n : ℕ) (h : n < cfg5.N) : Vec F S1024x1024 .f32 := acc 4 k5_pay1 k5_pay2 (X0 V c) (X1 V c) n h

/-- Each window's current staging memref at point `t`, as the pipeline passes it, and the accumulator's buffer. -/
abbrev ms0 (t : Fin cfg5.N) : Memref sig .tc .vmem S2048x1024 .bf16 := win5_0.stage (cfg5.slots t 0)
abbrev ms1 (t : Fin cfg5.N) : Memref sig .tc .vmem S2048x1024 .bf16 := win5_1.stage (cfg5.slots t 1)
abbrev ms2 (t : Fin cfg5.N) : Memref sig .tc .vmem S1024x1024 .bf16 := win5_2.stage (cfg5.slots t 2)
abbrev scM : Memref sig .tc .vmem S1024x1024 .f32 := Memref.whole cc5_scratch0

/-- What rides beside the accumulator's buffer: the other scoped buffers, at anything, and the random-number register. -/
def rest (c : Dev nD) : sProp 𝕄 :=
  iprop(Pipeline.scopedRestBut (Ix := Ix) (Name := ℕ) (U := U) (Lvl := Lvl) (Val := Elt F) spec5 c [cc5_scratch0] ∗ ∃ r, prngReg c r)

/-! ## The pipeline's proof data -/

/-- The arrays as the region finds them; after the body each input's buffer at its block and the output's at the accumulator
    rounded; the invariant `Phi`; full shares; the core owing `D c`. -/
def dat (c : Dev nD) : Dat τ (Elt F) Ix ℕ U Lvl cfg5 c where
  A w := V c (Pipeline.arrRef spec5 w)
  after w t := match w with
    | ⟨0, _⟩ => iblk V c 0 t
    | ⟨1, _⟩ => iblk V c 1 t
    | ⟨2, _⟩ => k5_pay3 (accAt V c t.val t.isLt)
  Φ t := Phi 4 k5_pay1 k5_pay2 (X0 V c) (X1 V c) scM c (rest c) t.val (Nat.le_of_lt_succ t.isLt)
  q _ := fullShare
  owed _ := D c

variable (ι : Ix)

local notation "𝕕" => dat (Ix := Ix) (U := U) (Lvl := Lvl) V D

/-- The proof data's arrays are the region-entry contents. -/
theorem A_eq (c : Dev nD) (w : Fin cfg5.W) : (𝕕 c).A w = V c (Pipeline.arrRef spec5 w) := by dsimp only [dat]

/-- What the body leaves, window by window. -/
theorem after0 (c : Dev nD) (t : Fin cfg5.N) : (𝕕 c).after 0 t = iblk V c 0 t := by dsimp only [dat]
theorem after1 (c : Dev nD) (t : Fin cfg5.N) : (𝕕 c).after 1 t = iblk V c 1 t := by dsimp only [dat]
theorem after2 (c : Dev nD) (t : Fin cfg5.N) : (𝕕 c).after 2 t = k5_pay3 (accAt V c t.val t.isLt) := by dsimp only [dat]

/-- Each input's current staging buffer holds its block at every point, fetched there or not. -/
theorem before0 (c : Dev nD) (t : Fin cfg5.N) (d) : (𝕕 c).before 0 t d = iblk V c 0 t :=
  ((𝕕 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg5.N) (d) : (𝕕 c).before 1 t d = iblk V c 1 t :=
  ((𝕕 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)

/-! ## The body obligation -/

/-- What the body is called with at point `t`, -/
def bodyPre (c : Dev nD) (t : Fin cfg5.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d)))

/-- and what it returns. -/
def bodyPost (c : Dev nD) (t : Fin cfg5.N) : sProp 𝕄 :=
  iprop((𝕕 c).Φ t.succ ∗ (𝕕 c).owesAt ι t.succ
    ∗ (𝕕 c).leavesExact 0 t ∗ (𝕕 c).leavesExact 1 t ∗ (𝕕 c).leavesExact 2 t)

set_option maxHeartbeats 1000000 in
/-- The body at any point, by whether the point ends a sum. -/
theorem sound_body (𝒱₀ : Variants) (c : Dev nD) (t : Fin cfg5.N) :
    bodyPre (U := U) (Lvl := Lvl) V D ι c t ⊢ wp frame (wpE (defs₀ (F := F)) 𝒱₀ c none) Set.univ (bodyAt5 t) (fun _ => bodyPost (U := U) (Lvl := Lvl) V D ι c t) := by
  unfold bodyPre bodyPost bodyAt5
  simp only [before0, before1]
  rw [cc5_eq]
  rw [show (𝕕 c).owesAt ι t.succ = (𝕕 c).owesAt ι t.castSucc from rfl,
    show (𝕕 c).Φ t.succ = Phi 4 k5_pay1 k5_pay2 (X0 V c) (X1 V c) scM c (rest c) (t.val + 1) t.isLt from rfl,
    show (𝕕 c).Φ t.castSucc = Phi 4 k5_pay1 k5_pay2 (X0 V c) (X1 V c) scM c (rest c) t.val (Nat.le_of_lt t.isLt) from rfl,
    show (𝕕 c).leavesExact 0 t = owns (c : Thread nD τ) (ms0 t) fullShare (X0 V c t) from by
      unfold Dat.leavesExact; rw [show cfg5.idle 0 (grid5.coords t) = false from rfl, after0],
    show (𝕕 c).leavesExact 1 t = owns (c : Thread nD τ) (ms1 t) fullShare (X1 V c t) from by
      unfold Dat.leavesExact; rw [show cfg5.idle 1 (grid5.coords t) = false from rfl, after1]]
  by_cases hl : t.val % 4 = 4 - 1
  · rw [show (𝕕 c).leavesExact 2 t = owns (c : Thread nD τ) (ms2 t) fullShare (k5_pay3 (accAt V c t.val t.isLt)) from by
      unfold Dat.leavesExact; rw [live_out t hl, after2]]
    iintro ⟨HΦ, Ho, ⟨%d0, H0⟩, ⟨%d1, H1⟩, ⟨%d2, H2⟩⟩
    iapply (step_last _ _ _ _ _ _ 4 (by decide) k5_pay1 k5_pay2 k5_pay3 (X0 V c) (X1 V c) _ _ (ms0 t) (hstage5_0 _) (ms1 t) (hstage5_1 _) (ms2 t) (hstage5_2 _) scM
      (Memref.isWhole_whole _) 𝒱₀ c t (first_iff t) (last_iff t) (rest c) _ hl _)
    isplitl [HΦ]; · iexact HΦ
    isplitl [Ho]; · iexact Ho
    isplitl [H0]; · iexact H0
    isplitl [H1]; · iexact H1
    iexact H2
  · rw [Dat.leavesExact_idle (𝕕 c) 2 t (idle_out t hl) (noFlush_out t hl)]
    iintro ⟨HΦ, Ho, ⟨%d0, H0⟩, ⟨%d1, H1⟩, H2⟩
    iapply (step_idle _ _ _ _ _ _ 4 (by decide) k5_pay1 k5_pay2 k5_pay3 (X0 V c) (X1 V c) _ _ (ms0 t) (hstage5_0 _) (ms1 t) (hstage5_1 _) (ms2 t) (hstage5_2 _) scM
      (Memref.isWhole_whole _) 𝒱₀ c t (first_iff t) (last_iff t) (rest c) _ hl ((𝕕 c).before 2 t))
    isplitl [HΦ]; · iexact HΦ
    isplitl [Ho]; · iexact Ho
    isplitl [H0]; · iexact H0
    isplitl [H1]; · iexact H1
    iexact H2

/-- The body table's row at point `t`'s slots is the body as `bodyAt5` spells it. -/
theorem defs₀_row (t : Fin cfg5.N) :
    defs₀ (F := F) .tc cfg5.body (cfg5.bodyArgs t (cfg5.slots t)) = bodyAt5 t := by
  unfold defs₀; rw [Defs.onTc_tc]

/-- The library's body obligation, at every point. -/
theorem body_obligation (𝒱₀ : Variants) (c : Dev nD) : BodyObligation (𝕕 c) (defs₀ (F := F)) 𝒱₀ ι Set.univ := fun t => by
  rw [bigSep_W5, bigSep_W5, defs₀_row]
  exact triple_restated (sound_body (U := U) (Lvl := Lvl) V D ι 𝒱₀ c t) rfl .rfl fun _ => .rfl

/-- The scoped buffers and the register make the invariant before the first point, -/
theorem hin (c : Dev nD) :
    iprop(Pipeline.scopedRest (Ix := Ix) (Name := ℕ) (U := U) (Lvl := Lvl) (Val := Elt F) spec5 c ∗ ∃ r, prngReg c r) ⊢ (𝕕 c).Φ 0 := by
  rw [show (𝕕 c).Φ 0 = (iprop((∃ d, owns (c : Thread nD τ) scM fullShare d) ∗ rest c) : sProp 𝕄) from rfl, scopedRest5_split]
  simp only [scM, owns_whole]
  unfold rest
  iintro ⟨⟨HS, HB⟩, Hp⟩
  isplitl [HS]; · iexact HS
  isplitl [HB]; · iexact HB
  iexact Hp

/-- and the invariant after the last point gives them back. -/
theorem hout (c : Dev nD) :
    (𝕕 c).Φ (Fin.last cfg5.N) ⊢ (iprop(Pipeline.scopedRest (Ix := Ix) (Name := ℕ) (U := U) (Lvl := Lvl) (Val := Elt F) spec5 c ∗ ∃ r, prngReg c r) : sProp 𝕄) := by
  rw [show (𝕕 c).Φ (Fin.last cfg5.N) = Phi 4 k5_pay1 k5_pay2 (X0 V c) (X1 V c) scM c (rest c) cfg5.N (Nat.le_refl _) from rfl]
  refine (Phi_any 4 k5_pay1 k5_pay2 (X0 V c) (X1 V c) scM c (rest (F := F) (Ix := Ix) (U := U) (Lvl := Lvl) c) _ _).trans ?_
  rw [scopedRest5_split]
  simp only [scM, owns_whole]
  unfold rest
  iintro ⟨HS, HB, Hp⟩
  isplitr [Hp]
  · isplitl [HS]; · iexact HS
    iexact HB
  iexact Hp

end Cert.KernelIdeal.Mm.K5

end
-- ==== Proof.Run.lean ====
/- The whole program's run: six kernel regions between two lines of host reshapes. The unscoped buffers' contents between the items are
   named one after another, each region's record is built over them, and every execution of @main ends with the buffers at the last of them. -/
module

public import proofs.«01_k».proof.Proof.Gen.KernelIdeal.Regions
public import proofs.«01_k».proof.Proof.Gen.Own.KernelIdeal.RegionsD
public import proofs.«01_k».proof.Proof.Mm.K3
public import proofs.«01_k».proof.Proof.Mm.K4
public import proofs.«01_k».proof.Proof.Mm.K5
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- Core `c`'s unscoped buffers after the first line of host reshapes. -/
def W1 (c : Dev nD) : Valuation τ sig (Elt F) := V1 m c

/-- Custom call 0 (the rows of W1 dequantised): its proof data, entered from the contents so far; -/
abbrev d0 (c : Dev nD) : Dat τ (Elt F) Unit ℕ (UR sig nD τ) ℕ cfg0 c :=
  Own.K0.dat Variants.none (fun c b => W1 m c (Proc.devRef .tc b)) 0 c
/-- core `c`'s unscoped buffers after it. -/
def W2 (c : Dev nD) : Valuation τ sig (Elt F) := Pipeline.afterRegion (d0 m c) (W1 m c)

/-- Custom call 1 (the columns of x dequantised): its proof data, entered from the contents so far; -/
abbrev d1 (c : Dev nD) : Dat τ (Elt F) Unit ℕ (UR sig nD τ) ℕ cfg1 c :=
  Own.K1.dat Variants.none (fun c b => W2 m c (Proc.devRef .tc b)) 0 c
/-- core `c`'s unscoped buffers after it. -/
def W3 (c : Dev nD) : Valuation τ sig (Elt F) := Pipeline.afterRegion (d1 m c) (W2 m c)

/-- Custom call 2 (the columns of a dequantised): its proof data, entered from the contents so far; -/
abbrev d2 (c : Dev nD) : Dat τ (Elt F) Unit ℕ (UR sig nD τ) ℕ cfg2 c :=
  Own.K2.dat Variants.none (fun c b => W3 m c (Proc.devRef .tc b)) 0 c
/-- core `c`'s unscoped buffers after it. -/
def W4 (c : Dev nD) : Valuation τ sig (Elt F) := Pipeline.afterRegion (d2 m c) (W3 m c)

/-- Custom call 3 (the product for dX): its proof data, entered from the contents so far; -/
abbrev d3 (c : Dev nD) : Dat τ (Elt F) Unit ℕ (UR sig nD τ) ℕ cfg3 c :=
  Mm.K3.dat (fun c b => W4 m c (Proc.devRef .tc b)) 0 c
/-- core `c`'s unscoped buffers after it. -/
def W5 (c : Dev nD) : Valuation τ sig (Elt F) := Pipeline.afterRegion (d3 m c) (W4 m c)

/-- Custom call 4 (the product for dW1): its proof data, entered from the contents so far; -/
abbrev d4 (c : Dev nD) : Dat τ (Elt F) Unit ℕ (UR sig nD τ) ℕ cfg4 c :=
  Mm.K4.dat (fun c b => W5 m c (Proc.devRef .tc b)) 0 c
/-- core `c`'s unscoped buffers after it. -/
def W6 (c : Dev nD) : Valuation τ sig (Elt F) := Pipeline.afterRegion (d4 m c) (W5 m c)

/-- Custom call 5 (the product for dW2): its proof data, entered from the contents so far; -/
abbrev d5 (c : Dev nD) : Dat τ (Elt F) Unit ℕ (UR sig nD τ) ℕ cfg5 c :=
  Mm.K5.dat (fun c b => W6 m c (Proc.devRef .tc b)) 0 c
/-- core `c`'s unscoped buffers after it. -/
def W7 (c : Dev nD) : Valuation τ sig (Elt F) := Pipeline.afterRegion (d5 m c) (W6 m c)

/-- And after the last host reshape. -/
def W8 (c : Dev nD) : Valuation τ sig (Elt F) := StableHlo.after hostOps6 (W7 m c)

/-! ## The regions' records -/

/-- The six regions' proof data. -/
def pdats : (p : Fin 6) → (c : Dev nD) → Dat τ (Elt F) Unit ℕ (UR sig nD τ) ℕ (cfgs p) c
  | 0 => d0 m
  | 1 => d1 m
  | 2 => d2 m
  | 3 => d3 m
  | 4 => d4 m
  | 5 => d5 m

/-- Each semaphore of a TensorCore has one level, the same for all. -/
abbrev L : GSem nD τ sig → Finset Unit := fun g => if g.1.2 = .tc then {()} else ∅
abbrev lv : GSem nD τ sig → Unit → ℕ := fun _ _ => 0

/-- Nothing is owed while a region runs, so the levels ask nothing. -/
theorem cut (p : Fin 6) : Pipeline.LevelCut (pcfgs (F := F)) adm () L lv p (0 : Dev nD → CellTallies nD τ sig Unit) (fun _ => 0) where
  hι _ _ _ := by simp [L]
  hιb _ _ _ := Nat.le_refl _
  hD _ _ _ h := absurd h (Nat.lt_irrefl 0)

/-- What rides beside the buffers: the register and the core owing nothing. -/
abbrev E (c : Dev nD) : sProp 𝕄 := iprop((∃ W, owes (c : Thread nD τ) (0 : CellTallies nD τ sig Unit) W) ∗ (∃ r, prngReg c r) ∗ emp)

set_option backward.isDefEq.respectTransparency.types false in
/-- Region 0: entered with the unscoped buffers at `W1`, left with them at `W2`. -/
def R0 : RegionSeg (pcfgs (F := F)) adm (pdats m) () defs₀ Variants.none L lv 0 :=
  Pipeline.RegionSeg.ofHeldIn (pcfgs (F := F)) adm (pdats m) () defs₀ Variants.none L lv 0 0 (Pipeline.ucRefs τ sig)
    (fun c => iprop(∃ r, prngReg c r)) (fun c => iprop(∃ r, prngReg c r)) launch0.toP rfl
    (fun c => (Own.K0.body_obligation Variants.none (fun c b => W1 m c (Proc.devRef .tc b)) 0 () c).loose)
    (fun _ _ => rfl) (fun _ => rfl) (fun c => (pdats m 0 c).share_full fun _ => rfl)
    (fun c => .rfl) (fun c => .rfl) (fun _ => 0) (cut 0) (fun _ => iprop(emp)) (W1 m)
    (fun c w => Own.K0.A_eq Variants.none (fun c b => W1 m c (Proc.devRef .tc b)) 0 c w)

set_option backward.isDefEq.respectTransparency.types false in
/-- Region 1: entered with the unscoped buffers at `W2`, left with them at `W3`. -/
def R1 : RegionSeg (pcfgs (F := F)) adm (pdats m) () defs₀ Variants.none L lv 1 :=
  Pipeline.RegionSeg.ofHeldIn (pcfgs (F := F)) adm (pdats m) () defs₀ Variants.none L lv 1 0 (Pipeline.ucRefs τ sig)
    (fun c => iprop(∃ r, prngReg c r)) (fun c => iprop(∃ r, prngReg c r)) launch1.toP rfl
    (fun c => (Own.K1.body_obligation Variants.none (fun c b => W2 m c (Proc.devRef .tc b)) 0 () c).loose)
    (fun _ _ => rfl) (fun _ => rfl) (fun c => (pdats m 1 c).share_full fun _ => rfl)
    (fun c => .rfl) (fun c => .rfl) (fun _ => 0) (cut 1) (fun _ => iprop(emp)) (W2 m)
    (fun c w => Own.K1.A_eq Variants.none (fun c b => W2 m c (Proc.devRef .tc b)) 0 c w)

set_option backward.isDefEq.respectTransparency.types false in
/-- Region 2: entered with the unscoped buffers at `W3`, left with them at `W4`. -/
def R2 : RegionSeg (pcfgs (F := F)) adm (pdats m) () defs₀ Variants.none L lv 2 :=
  Pipeline.RegionSeg.ofHeldIn (pcfgs (F := F)) adm (pdats m) () defs₀ Variants.none L lv 2 0 (Pipeline.ucRefs τ sig)
    (fun c => iprop(∃ r, prngReg c r)) (fun c => iprop(∃ r, prngReg c r)) launch2.toP rfl
    (fun c => (Own.K2.body_obligation Variants.none (fun c b => W3 m c (Proc.devRef .tc b)) 0 () c).loose)
    (fun _ _ => rfl) (fun _ => rfl) (fun c => (pdats m 2 c).share_full fun _ => rfl)
    (fun c => .rfl) (fun c => .rfl) (fun _ => 0) (cut 2) (fun _ => iprop(emp)) (W3 m)
    (fun c w => Own.K2.A_eq Variants.none (fun c b => W3 m c (Proc.devRef .tc b)) 0 c w)

set_option backward.isDefEq.respectTransparency.types false in
/-- Region 3: entered with the unscoped buffers at `W4`, left with them at `W5`. -/
def R3 : RegionSeg (pcfgs (F := F)) adm (pdats m) () defs₀ Variants.none L lv 3 :=
  Pipeline.RegionSeg.ofHeldIn (pcfgs (F := F)) adm (pdats m) () defs₀ Variants.none L lv 3 0 (Pipeline.ucRefs τ sig)
    (fun c => iprop(∃ r, prngReg c r)) (fun c => iprop(∃ r, prngReg c r)) launch3.toP rfl
    (fun c => (Mm.K3.body_obligation (fun c b => W4 m c (Proc.devRef .tc b)) 0 () Variants.none c).loose)
    (fun _ _ => rfl) (fun _ => rfl) (fun c => (pdats m 3 c).share_full fun _ => rfl)
    (fun c => Mm.K3.hin (fun c b => W4 m c (Proc.devRef .tc b)) 0 c) (fun c => Mm.K3.hout (fun c b => W4 m c (Proc.devRef .tc b)) 0 c) (fun _ => 0) (cut 3) (fun _ => iprop(emp)) (W4 m)
    (fun c w => Mm.K3.A_eq (fun c b => W4 m c (Proc.devRef .tc b)) 0 c w)

set_option backward.isDefEq.respectTransparency.types false in
/-- Region 4: entered with the unscoped buffers at `W5`, left with them at `W6`. -/
def R4 : RegionSeg (pcfgs (F := F)) adm (pdats m) () defs₀ Variants.none L lv 4 :=
  Pipeline.RegionSeg.ofHeldIn (pcfgs (F := F)) adm (pdats m) () defs₀ Variants.none L lv 4 0 (Pipeline.ucRefs τ sig)
    (fun c => iprop(∃ r, prngReg c r)) (fun c => iprop(∃ r, prngReg c r)) launch4.toP rfl
    (fun c => (Mm.K4.body_obligation (fun c b => W5 m c (Proc.devRef .tc b)) 0 () Variants.none c).loose)
    (fun _ _ => rfl) (fun _ => rfl) (fun c => (pdats m 4 c).share_full fun _ => rfl)
    (fun c => Mm.K4.hin (fun c b => W5 m c (Proc.devRef .tc b)) 0 c) (fun c => Mm.K4.hout (fun c b => W5 m c (Proc.devRef .tc b)) 0 c) (fun _ => 0) (cut 4) (fun _ => iprop(emp)) (W5 m)
    (fun c w => Mm.K4.A_eq (fun c b => W5 m c (Proc.devRef .tc b)) 0 c w)

set_option backward.isDefEq.respectTransparency.types false in
/-- Region 5: entered with the unscoped buffers at `W6`, left with them at `W7`. -/
def R5 : RegionSeg (pcfgs (F := F)) adm (pdats m) () defs₀ Variants.none L lv 5 :=
  Pipeline.RegionSeg.ofHeldIn (pcfgs (F := F)) adm (pdats m) () defs₀ Variants.none L lv 5 0 (Pipeline.ucRefs τ sig)
    (fun c => iprop(∃ r, prngReg c r)) (fun c => iprop(∃ r, prngReg c r)) launch5.toP rfl
    (fun c => (Mm.K5.body_obligation (fun c b => W6 m c (Proc.devRef .tc b)) 0 () Variants.none c).loose)
    (fun _ _ => rfl) (fun _ => rfl) (fun c => (pdats m 5 c).share_full fun _ => rfl)
    (fun c => Mm.K5.hin (fun c b => W6 m c (Proc.devRef .tc b)) 0 c) (fun c => Mm.K5.hout (fun c b => W6 m c (Proc.devRef .tc b)) 0 c) (fun _ => 0) (cut 5) (fun _ => iprop(emp)) (W6 m)
    (fun c w => Mm.K5.A_eq (fun c b => W6 m c (Proc.devRef .tc b)) 0 c w)

/-! ## The launch -/

/-- The two lines of host reshapes as segments. -/
def H0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def H6 : HostSeg (Ix := Unit) (Name := ℕ) (U := UR sig nD τ) (Lvl := ℕ) (pcfgs (F := F)) defs₀ Variants.none L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W7 m) E

/-- @main's items. -/
abbrev segs : List (Seg (pcfgs (F := F)) adm (pdats m) () defs₀ Variants.none L lv) :=
  [.host (H0 m), .region (R0 m), .region (R1 m), .region (R2 m), .region (R3 m), .region (R4 m), .region (R5 m), .host (H6 m)]

/-- A region is entered: its arrays `A` taken out of the unscoped buffers; -/
theorem enter (c : Dev nD) (A : Finset (DevRef τ sig)) (hA : A ⊆ Pipeline.ucRefs τ sig) (V : Valuation τ sig (Elt F)) :
    iprop(StableHlo.held (c : Thread nD τ) (Pipeline.ucRefs τ sig) V ∗ E c)
      ⊢ (iprop(StableHlo.held (c : Thread nD τ) A V ∗ (∃ r, prngReg c r) ∗ (StableHlo.held (c : Thread nD τ) (Pipeline.ucRefs τ sig \ A) V ∗ emp)
          ∗ ∃ Wd, owes (c : Thread nD τ) (0 : CellTallies nD τ sig Unit) Wd) : sProp 𝕄) := by
  rw [StableHlo.held_sub_split (c : Thread nD τ) hA V]
  iintro ⟨⟨Ha, Hu⟩, HO, HX, HR⟩
  isplitl [Ha]; · iexact Ha
  isplitl [HX]; · iexact HX
  isplitl [Hu HR]
  · isplitl [Hu]; · iexact Hu
    iexact HR
  iexact HO

/-- and left: they are put back, at new contents that agree with the old off `A`. -/
theorem leave (c : Dev nD) (A : Finset (DevRef τ sig)) (hA : A ⊆ Pipeline.ucRefs τ sig) (V V' : Valuation τ sig (Elt F))
    (h : ∀ b ∈ Pipeline.ucRefs τ sig \ A, V' b = V b) :
    (iprop(StableHlo.held (c : Thread nD τ) A V' ∗ (∃ r, prngReg c r) ∗ (StableHlo.held (c : Thread nD τ) (Pipeline.ucRefs τ sig \ A) V ∗ emp)
          ∗ ∃ Wd, owes (c : Thread nD τ) (0 : CellTallies nD τ sig Unit) Wd) : sProp 𝕄)
      ⊢ iprop(StableHlo.held (c : Thread nD τ) (Pipeline.ucRefs τ sig) V' ∗ E c) := by
  rw [StableHlo.held_sub_split (c : Thread nD τ) hA V', StableHlo.held_congr (c : Thread nD τ) h]
  iintro ⟨Ha, HX, ⟨Hu, HR⟩, HO⟩
  isplitl [Ha Hu]
  · isplitl [Ha]; · iexact Ha
    iexact Hu
  isplitl [HO]; · iexact HO
  isplitl [HX]; · iexact HX
  iexact HR

/-- Region 0 entered, and left. -/
theorem pre0 (c : Dev nD) : iprop(StableHlo.held (c : Thread nD τ) (Pipeline.ucRefs τ sig) (W1 m c) ∗ E c) ⊢ (R0 m).pre c :=
  enter c (Pipeline.arrRefs (τ := τ) spec0) (Pipeline.arrRefs_sub_ucRefs spec0 (by decide)) (W1 m c)
theorem post0 (c : Dev nD) : (R0 m).post c ⊢ iprop(StableHlo.held (c : Thread nD τ) (Pipeline.ucRefs τ sig) (W2 m c) ∗ E c) :=
  leave c (Pipeline.arrRefs (τ := τ) spec0) (Pipeline.arrRefs_sub_ucRefs spec0 (by decide)) (W1 m c) (W2 m c)
    (Pipeline.afterRegion_off (d0 m c) (W1 m c) (Pipeline.ucRefs τ sig))

/-- Region 1 entered, and left. -/
theorem pre1 (c : Dev nD) : iprop(StableHlo.held (c : Thread nD τ) (Pipeline.ucRefs τ sig) (W2 m c) ∗ E c) ⊢ (R1 m).pre c :=
  enter c (Pipeline.arrRefs (τ := τ) spec1) (Pipeline.arrRefs_sub_ucRefs spec1 (by decide)) (W2 m c)
theorem post1 (c : Dev nD) : (R1 m).post c ⊢ iprop(StableHlo.held (c : Thread nD τ) (Pipeline.ucRefs τ sig) (W3 m c) ∗ E c) :=
  leave c (Pipeline.arrRefs (τ := τ) spec1) (Pipeline.arrRefs_sub_ucRefs spec1 (by decide)) (W2 m c) (W3 m c)
    (Pipeline.afterRegion_off (d1 m c) (W2 m c) (Pipeline.ucRefs τ sig))

/-- Region 2 entered, and left. -/
theorem pre2 (c : Dev nD) : iprop(StableHlo.held (c : Thread nD τ) (Pipeline.ucRefs τ sig) (W3 m c) ∗ E c) ⊢ (R2 m).pre c :=
  enter c (Pipeline.arrRefs (τ := τ) spec2) (Pipeline.arrRefs_sub_ucRefs spec2 (by decide)) (W3 m c)
theorem post2 (c : Dev nD) : (R2 m).post c ⊢ iprop(StableHlo.held (c : Thread nD τ) (Pipeline.ucRefs τ sig) (W4 m c) ∗ E c) :=
  leave c (Pipeline.arrRefs (τ := τ) spec2) (Pipeline.arrRefs_sub_ucRefs spec2 (by decide)) (W3 m c) (W4 m c)
    (Pipeline.afterRegion_off (d2 m c) (W3 m c) (Pipeline.ucRefs τ sig))

/-- Region 3 entered, and left. -/
theorem pre3 (c : Dev nD) : iprop(StableHlo.held (c : Thread nD τ) (Pipeline.ucRefs τ sig) (W4 m c) ∗ E c) ⊢ (R3 m).pre c :=
  enter c (Pipeline.arrRefs (τ := τ) spec3) (Pipeline.arrRefs_sub_ucRefs spec3 (by decide)) (W4 m c)
theorem post3 (c : Dev nD) : (R3 m).post c ⊢ iprop(StableHlo.held (c : Thread nD τ) (Pipeline.ucRefs τ sig) (W5 m c) ∗ E c) :=
  leave c (Pipeline.arrRefs (τ := τ) spec3) (Pipeline.arrRefs_sub_ucRefs spec3 (by decide)) (W4 m c) (W5 m c)
    (Pipeline.afterRegion_off (d3 m c) (W4 m c) (Pipeline.ucRefs τ sig))

/-- Region 4 entered, and left. -/
theorem pre4 (c : Dev nD) : iprop(StableHlo.held (c : Thread nD τ) (Pipeline.ucRefs τ sig) (W5 m c) ∗ E c) ⊢ (R4 m).pre c :=
  enter c (Pipeline.arrRefs (τ := τ) spec4) (Pipeline.arrRefs_sub_ucRefs spec4 (by decide)) (W5 m c)
theorem post4 (c : Dev nD) : (R4 m).post c ⊢ iprop(StableHlo.held (c : Thread nD τ) (Pipeline.ucRefs τ sig) (W6 m c) ∗ E c) :=
  leave c (Pipeline.arrRefs (τ := τ) spec4) (Pipeline.arrRefs_sub_ucRefs spec4 (by decide)) (W5 m c) (W6 m c)
    (Pipeline.afterRegion_off (d4 m c) (W5 m c) (Pipeline.ucRefs τ sig))

/-- Region 5 entered, and left. -/
theorem pre5 (c : Dev nD) : iprop(StableHlo.held (c : Thread nD τ) (Pipeline.ucRefs τ sig) (W6 m c) ∗ E c) ⊢ (R5 m).pre c :=
  enter c (Pipeline.arrRefs (τ := τ) spec5) (Pipeline.arrRefs_sub_ucRefs spec5 (by decide)) (W6 m c)
theorem post5 (c : Dev nD) : (R5 m).post c ⊢ iprop(StableHlo.held (c : Thread nD τ) (Pipeline.ucRefs τ sig) (W7 m c) ∗ E c) :=
  leave c (Pipeline.arrRefs (τ := τ) spec5) (Pipeline.arrRefs_sub_ucRefs spec5 (by decide)) (W6 m c) (W7 m c)
    (Pipeline.afterRegion_off (d5 m c) (W6 m c) (Pipeline.ucRefs τ sig))

set_option backward.isDefEq.respectTransparency.types false in
/-- THE RUN. From any memory with zero counters every weakly fair execution of @main terminates, each unscoped buffer then holds
    what `W8` says, and every semaphore counter is at zero. -/
theorem run (ρ : Dev nD → PrngReg) :
    θ_run defs (onTc (τ := τ) (main (F := F))) ⟨m, fun _ => 0, ρ⟩ (fun r =>
      (∀ (c : Dev nD), ∀ b ∈ Pipeline.ucRefs τ sig, r.2.mem ((c.tc : Thread nD τ).1, b) = W8 m c b) ∧ r.2.sem = fun _ => 0) := by
  refine Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          StableHlo.seq hostOps6 ] from rfl]
      dsimp (config := { failIfUnchanged := false }) only
      exact .rfl)
    (fun c => by simp only [segs, Seg.pipes_host, Seg.pipes_region, Seg.pipes_nil]; decide)
    0 (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (W8 m c))
    (hch := fun c => ⟨.rfl, pre0 m c, (post0 m c).trans (pre1 m c), (post1 m c).trans (pre2 m c), (post2 m c).trans (pre3 m c), (post3 m c).trans (pre4 m c), (post4 m c).trans (pre5 m c),
      post5 m c, sep_mono .rfl (by iintro ⟨HO, -⟩; iexact HO)⟩)
    (hinit := ?_)
    (QY := fun c s => ∀ b ∈ Pipeline.ucRefs τ sig, s.mem ((c.tc : Thread nD τ).1, b) = W8 m c b)
    (hfin := fun c s' => ?_) (hQ := fun _ h hz => ⟨h, funext fun g => hz g (.inr (regions_no_unscoped g.2))⟩)
  · -- the pipelines' ghost state, as the user algebra's element
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers, register and dues
    refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists (ρ c); iexact Hp
    iempintro
  · -- the end: every buffer read off the last contents
    unfold StableHlo.held
    iintro ⟨Hh, HSI⟩
    ihave Hr := (pointsTo_read_all (Pipeline.ucRefs τ sig) (fun b => ((c.tc : Thread nD τ).1, b)) (W8 m c) s') $$ [Hh HSI]
    · isplitl [Hh] <;> iassumption
    imodintro; iexact Hr

end Cert.KernelIdeal.Run

end
-- ==== Proof.Ends.lean ====
/- What the run leaves in the arguments and in the results. -/
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-! ## Buffers a region keeps -/

theorem W2_of (c : Dev nD) (r : Ref sig .tc) (h : ∀ w, Pipeline.arrRef spec0 w = r → (cfg0.win w).isOut = false) :
    W2 m c r = W1 m c r := Pipeline.afterRegion_keeps (d0 m c) (W1 m c) launch0.win.arr_inj (fun w => Own.K0.A_eq _ _ _ c w) r h
theorem W3_of (c : Dev nD) (r : Ref sig .tc) (h : ∀ w, Pipeline.arrRef spec1 w = r → (cfg1.win w).isOut = false) :
    W3 m c r = W2 m c r := Pipeline.afterRegion_keeps (d1 m c) (W2 m c) launch1.win.arr_inj (fun w => Own.K1.A_eq _ _ _ c w) r h
theorem W4_of (c : Dev nD) (r : Ref sig .tc) (h : ∀ w, Pipeline.arrRef spec2 w = r → (cfg2.win w).isOut = false) :
    W4 m c r = W3 m c r := Pipeline.afterRegion_keeps (d2 m c) (W3 m c) launch2.win.arr_inj (fun w => Own.K2.A_eq _ _ _ c w) r h
theorem W5_of (c : Dev nD) (r : Ref sig .tc) (h : ∀ w, Pipeline.arrRef spec3 w = r → (cfg3.win w).isOut = false) :
    W5 m c r = W4 m c r := Pipeline.afterRegion_keeps (d3 m c) (W4 m c) launch3.win.arr_inj (fun w => Mm.K3.A_eq _ _ c w) r h
theorem W6_of (c : Dev nD) (r : Ref sig .tc) (h : ∀ w, Pipeline.arrRef spec4 w = r → (cfg4.win w).isOut = false) :
    W6 m c r = W5 m c r := Pipeline.afterRegion_keeps (d4 m c) (W5 m c) launch4.win.arr_inj (fun w => Mm.K4.A_eq _ _ c w) r h
theorem W7_of (c : Dev nD) (r : Ref sig .tc) (h : ∀ w, Pipeline.arrRef spec5 w = r → (cfg5.win w).isOut = false) :
    W7 m c r = W6 m c r := Pipeline.afterRegion_keeps (d5 m c) (W6 m c) launch5.win.arr_inj (fun w => Mm.K5.A_eq _ _ c w) r h
theorem W8_of (c : Dev nD) (r : Ref sig .tc) (h : r ∉ hostOps6_W) : W8 m c r = W7 m c r :=
  StableHlo.after_of_writes_sub hostOps6 _ hostOps6_writes h
theorem W1_of (c : Dev nD) (r : Ref sig .tc) (h : r ∉ hostOps0_W) : W1 m c r = m ((c : Thread nD τ).loc r) := V1_of m c r h

/-- No item writes `r`: it is no output window's array and no host line's result. -/
def Kept (r : Ref sig .tc) : Prop :=
  r ∉ hostOps0_W ∧ (∀ w, Pipeline.arrRef spec0 w = r → (cfg0.win w).isOut = false) ∧ (∀ w, Pipeline.arrRef spec1 w = r → (cfg1.win w).isOut = false)
    ∧ (∀ w, Pipeline.arrRef spec2 w = r → (cfg2.win w).isOut = false) ∧ (∀ w, Pipeline.arrRef spec3 w = r → (cfg3.win w).isOut = false)
    ∧ (∀ w, Pipeline.arrRef spec4 w = r → (cfg4.win w).isOut = false) ∧ (∀ w, Pipeline.arrRef spec5 w = r → (cfg5.win w).isOut = false)
    ∧ r ∉ hostOps6_W
instance (r : Ref sig .tc) : Decidable (Kept r) := by unfold Kept; infer_instance

/-- Such a buffer reaches the end as launched. -/
theorem W8_kept (c : Dev nD) (r : Ref sig .tc) (h : Kept r) : W8 m c r = m ((c : Thread nD τ).loc r) :=
  (W8_of m c r h.2.2.2.2.2.2.2).trans <| (W7_of m c r h.2.2.2.2.2.2.1).trans <| (W6_of m c r h.2.2.2.2.2.1).trans <|
    (W5_of m c r h.2.2.2.2.1).trans <| (W4_of m c r h.2.2.2.1).trans <| (W3_of m c r h.2.2.1).trans <| (W2_of m c r h.2.1).trans <| W1_of m c r h.1

/-- An unscoped buffer at the end of the run. -/
theorem at_end {s : MemSt nD τ sig (Elt F)} (c : Dev nD) (h : ∀ b ∈ Pipeline.ucRefs τ sig, s.mem ((c.tc : Thread nD τ).1, b) = W8 m c b)
    (r : Ref sig .tc) (hr : r.isScoped = false) : s.mem ((c.tc : Thread nD τ).loc r) = W8 m c r :=
  h (Proc.devRef .tc r) (Pipeline.devRef_mem_ucRefs hr)

/-- Each argument at the end is as launched. -/
theorem arg_end {s : MemSt nD τ sig (Elt F)} (c : Dev nD) (h : ∀ b ∈ Pipeline.ucRefs τ sig, s.mem ((c.tc : Thread nD τ).1, b) = W8 m c b)
    (r : Ref sig .tc) (hr : r.isScoped = false) (hk : Kept r) : s.mem ((c.tc : Thread nD τ).loc r) = m ((c.tc : Thread nD τ).loc r) :=
  (at_end m c h r hr).trans (W8_kept m c r hk)

theorem kept0 : Kept main_arg0 := by decide +kernel
theorem kept1 : Kept main_arg1 := by decide +kernel
theorem kept2 : Kept main_arg2 := by decide +kernel
theorem kept3 : Kept main_arg3 := by decide +kernel
theorem kept4 : Kept main_arg4 := by decide +kernel
theorem kept5 : Kept main_arg5 := by decide +kernel
theorem kept6 : Kept main_arg6 := by decide +kernel
theorem kept7 : Kept main_arg7 := by decide +kernel
theorem kept8 : Kept main_arg8 := by decide +kernel

/-- THE RUN, READ: the three results at `W8`, the arguments as launched, every semaphore counter at zero. -/
theorem run_read (ρ : Dev nD → PrngReg) :
    θ_run defs (onTc (τ := τ) (main (F := F))) ⟨m, fun _ => 0, ρ⟩ (fun r => (∀ c : Dev nD,
      r.2.mem ((c.tc : Thread nD τ).loc main_v8) = W8 m c main_v8
      ∧ r.2.mem ((c.tc : Thread nD τ).loc main_v6) = W8 m c main_v6
      ∧ r.2.mem ((c.tc : Thread nD τ).loc main_v7) = W8 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun _ h => ⟨fun c => ⟨at_end m c (h.1 c) main_v8 rfl, at_end m c (h.1 c) main_v6 rfl, at_end m c (h.1 c) main_v7 rfl,
    arg_end m c (h.1 c) main_arg0 rfl kept0, arg_end m c (h.1 c) main_arg1 rfl kept1, arg_end m c (h.1 c) main_arg2 rfl kept2,
    arg_end m c (h.1 c) main_arg3 rfl kept3, arg_end m c (h.1 c) main_arg4 rfl kept4, arg_end m c (h.1 c) main_arg5 rfl kept5,
    arg_end m c (h.1 c) main_arg6 rfl kept6, arg_end m c (h.1 c) main_arg7 rfl kept7, arg_end m c (h.1 c) main_arg8 rfl kept8⟩, h.2⟩) (run m ρ)

end Cert.KernelIdeal.Run

end
-- ==== Proof.FrameBits.lean ====
/- The frame of the kernel as printed. The printed program and the one printed for the ideal reading are the same text, so at any
   values the one's run is the other's: the frame, proved once for any values, is read at `Bits` for the one and at `Ideal` for the other. -/
module

public import proofs.«01_k».proof.Defs
public import proofs.«01_k».proof.Proof.Ends
public import proofs.«01_k».proof.Proof.Gen.Kernel.Regions

@[expose] public section

noncomputable section

namespace Cert.Proof

open Idealize.ShloMosaic Idealize.ShloMosaic.TcCoe
open Idealize.SL.Sem

/-- The frame at values `F`: the run terminates, each argument ends as launched, every semaphore counter is at zero. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

/-- It holds at any values. -/
theorem frameAt (F : FTy → Type) [FloatOps F] : FrameAt F := fun m g _ =>
  (θ_run _ _ _).mono (fun _ h => ⟨fun c => (h.1 c).2.2.2, h.2⟩) (Cert.KernelIdeal.Run.run_read m g)

/-- The printed kernel's frame claim is the frame at `Bits`: the two printed programs are equal by computation. -/
theorem quiescent_Kernel_eq : Cert.quiescent_Kernel = FrameAt Bits := by chain_rfl

/-- The printed kernel's frame. -/
theorem quiescent_Kernel : Cert.quiescent_Kernel := quiescent_Kernel_eq.mpr (frameAt Bits)

/-- The idealized kernel's frame. -/
theorem quiescent_KernelIdeal : Cert.quiescent_KernelIdeal := frameAt Ideal

end Cert.Proof

end
-- ==== Proof.Val.Spec.lean ====
/- The dequantisations and the matrix products as functions of whole arrays over the extended reals. -/
module

public import proofs.«01_k».proof.Proof.Gen.KernelIdeal.Launch
public import Idealize.ShloMosaic.Lib.Pointwise

@[expose] public section

noncomputable section

namespace Cert.KernelIdeal.Val

open Cert.KernelIdeal
open Idealize.ShloMosaic

/-- W1: each code times the scale of its group of 32 columns. -/
def w1 (q : Vec Ideal S7168x10240 .fp8e4m3) (s : Vec Ideal S7168x320 .f32) : Vec Ideal S7168x10240 .bf16 :=
  fun i => q i * s (ix2 (n0 := 7168) (n1 := 320) (i 0) ⟨(i 1).val / 32, by have : (i 1).val < 10240 := (i 1).isLt; omega⟩)

/-- x: each code times the scale of its group of 32 rows. -/
def x (q : Vec Ideal S8192x7168 .fp8e4m3) (s : Vec Ideal S256x7168 .f32) : Vec Ideal S8192x7168 .bf16 :=
  fun i => q i * s (ix2 (n0 := 256) (n1 := 7168) ⟨(i 0).val / 32, by have : (i 0).val < 8192 := (i 0).isLt; omega⟩ (i 1))

/-- a: each code times the scale of its group of 32 rows. -/
def a (q : Vec Ideal S8192x5120 .fp8e4m3) (s : Vec Ideal S256x5120 .f32) : Vec Ideal S8192x5120 .bf16 :=
  fun i => q i * s (ix2 (n0 := 256) (n1 := 5120) ⟨(i 0).val / 32, by have : (i 0).val < 8192 := (i 0).isLt; omega⟩ (i 1))

/-- The product for dX: rows of the first against rows of the second. -/
def dx (p : Vec Ideal S8192x10240 .bf16) (q : Vec Ideal S7168x10240 .bf16) : Vec Ideal S8192x7168 .bf16 :=
  fun i => ∑ k : Fin 10240, p (ix2 (n0 := 8192) (i 0) k) * q (ix2 (n0 := 7168) (i 1) k)

/-- The product for dW1: columns of the first against columns of the second. -/
def dw1 (p : Vec Ideal S8192x7168 .bf16) (q : Vec Ideal S8192x10240 .bf16) : Vec Ideal S7168x10240 .bf16 :=
  fun i => ∑ k : Fin 8192, p (ix2 (n1 := 7168) k (i 0)) * q (ix2 (n1 := 10240) k (i 1))

/-- The product for dW2: columns of the first against columns of the second. -/
def dw2 (p : Vec Ideal S8192x5120 .bf16) (q : Vec Ideal S8192x7168 .bf16) : Vec Ideal S5120x7168 .bf16 :=
  fun i => ∑ k : Fin 8192, p (ix2 (n1 := 5120) k (i 0)) * q (ix2 (n1 := 7168) k (i 1))

end Cert.KernelIdeal.Val

end
-- ==== Proof.Val.K0.lean ====
/- Custom call 0 (the rows of W1 dequantised), read as a value: its output array ends at each code times the scale of its group of 32 columns. -/
module

public import proofs.«01_k».proof.Proof.Run
public import proofs.«01_k».proof.Proof.Val.Spec
public import Idealize.ShloMosaic.Lib.Pipeline.Value
public import Idealize.ShloMosaic.Lib.Pipeline.ReadBack
public import Idealize.ShloMosaic.Lib.Pointwise

@[expose] public section

set_option maxRecDepth 16384

noncomputable section

namespace Cert.KernelIdeal.Val.K0

open Cert.KernelIdeal Cert.KernelIdeal.Gen Cert.KernelIdeal.Own.K0
open Idealize.ShloMosaic Idealize.ShloMosaic.TcCoe
open Idealize.SL Idealize.SL.RA Idealize.SL.Sem
open Idealize.ShloMosaic.Pipeline (Dat)

theorem hz : (![0, 0] : Fin 2 → Nat) = fun _ => 0 := funext fun a => by fin_cases a <;> rfl

/-- One chunk of the body: 256 columns of codes `q` times 8 rows `o …` of the transposed scales `s`, each repeated 32 times. -/
def chunk (o : ℕ) (h : S320x256.Slices ![o, 0] S8x256) (s : FVec Ideal S320x256 .f32) (q : Vec Ideal S256x256 .fp8e4m3) : FVec Ideal S256x256 .bf16 :=
  mulf (extf .bf16 q bitsLt_fp8e4m3_bf16)
    (truncf .bf16 (transpose S256x256 [1, 0] (shapeCast S256x256 (broadcastTo S8x32x256
      (shapeCast S8x1x256 (shapeCast S8x1x256 (extractStridedSlice S8x256 ![o, 0] s h) shapeCasts_S8x256_S8x1x256) shapeCasts_S8x1x256_S8x1x256)
      broadcasts_S8x1x256_S8x32x256) shapeCasts_S8x32x256_S256x256) transposes_S256x256_p1_0_S256x256) bitsLt_bf16_f32)

/-- The chunk at an index. -/
theorem chunk_at (o : ℕ) (ho : o + 8 ≤ 320) (h : S320x256.Slices ![o, 0] S8x256) (s : FVec Ideal S320x256 .f32) (q : Vec Ideal S256x256 .fp8e4m3) (a b : Fin 256) :
    chunk o h s q (ix2 a b) = q (ix2 a b) * s (ix2 (n0 := 320) (n1 := 256) ⟨o + b.val / 32, by omega⟩ a) := by
  pointwise [chunk]
  done

/-- The block of the dequantised array that the two input blocks make. -/
def blk (x0 : Vec Ideal S256x10240 .fp8e4m3) (x1 : Vec Ideal S256x320 .f32) : Vec Ideal S256x10240 .bf16 :=
  fun y => x0 y * x1 (ix2 (n0 := 256) (n1 := 320) (y 0) ⟨(y 1).val / 32, by have : (y 1).val < 10240 := (y 1).isLt; omega⟩)

/-- A chunk whose columns start 32 times as far as its scales' rows is the block's chunk there. -/
theorem piece (o n : ℕ) (hn : n = 32 * o) (ho : o + 8 ≤ 320) (h : S320x256.Slices ![o, 0] S8x256)
    (inb : ∀ a, (![0, n] : Fin 2 → ℕ) a + S256x256.size a ≤ S256x10240.size a)
    (arg1 : Memref sig .tc .vmem S256x10240 .fp8e4m3) (harg1 : arg1.IsWhole)
    (arg2 : Memref sig .tc .vmem S256x320 .f32) (harg2 : arg2.IsWhole)
    (x0 : Vec Ideal S256x10240 .fp8e4m3) (x1 : Vec Ideal S256x320 .f32) (z : S256x256.Idx) :
    chunk o h (k0_pay4 (View.readAt (Elt Ideal) arg2.view (Rect.unit (s := S256x320) ![0, 0] S256x320.size inb_S256x320_S256x320_0_0).toLoadRect (harg2.unread x1)))
        (View.readAt (Elt Ideal) arg1.view (Rect.unit (s := S256x10240) ![0, n] S256x256.size inb).toLoadRect (harg1.unread x0)) z
      = blk x0 x1 ((Rect.unit (s := S256x10240) ![0, n] S256x256.size inb).emb z) := by
  have hz0 : (z 0).val < 256 := (z 0).isLt
  have hz1 : (z 1).val < 256 := (z 1).isLt
  rw [show z = ix2 (n0 := 256) (n1 := 256) ⟨(z 0).val, hz0⟩ ⟨(z 1).val, hz1⟩ from by
    funext d
    match d with
    | ⟨0, _⟩ => rfl
    | ⟨1, _⟩ => rfl]
  rw [chunk_at o ho h]
  rw [View.readAt_eq_ld, View.readAt_eq_ld, harg1.read_unread, harg2.read_unread, View.ld_unit_zero (S := S256x320) hz]
  unfold blk
  refine congrArg₂ (· * ·) rfl ?_
  pointwise [k0_pay4]
  congr 1
  subst hn
  funext d
  apply Fin.ext
  match d with
  | ⟨0, _⟩ => show (z 0).val = 0 + 1 * (z 0).val; omega
  | ⟨1, _⟩ => show o + (z 1).val / 32 = (32 * o + 1 * (z 1).val) / 32; omega

section
variable {Ix : Type} [DecidableEq Ix] {U : Type} [URA U] {Lvl : Type} [Preorder Lvl]

/-- What the body leaves in the output's buffer. -/
theorem out_eq (𝒱₀ : Variants) (c : Dev nD) (i : grid0.Coords) (arg1 : Memref sig .tc .vmem S256x10240 .fp8e4m3) (harg1 : arg1.IsWhole)
    (arg2 : Memref sig .tc .vmem S256x320 .f32) (harg2 : arg2.IsWhole) (arg3 : Memref sig .tc .vmem S256x10240 .bf16) (harg3 : arg3.IsWhole)
    (x0 : Vec Ideal S256x10240 .fp8e4m3) (x1 : Vec Ideal S256x320 .f32) :
    out0_A_2 (F := Ideal) (Ix := Ix) (U := U) (Lvl := Lvl) 𝒱₀ c i arg1 harg1 arg2 harg2 arg3 harg3 x0 x1 = blk x0 x1 := by
  unfold out0_A_2
  rw [View.read_writes_eq_canon _ _ _ (cover0_A_2 (Ix := Ix) (U := U) (Lvl := Lvl) 𝒱₀ c i arg1 harg1 arg2 harg2 arg3 harg3 x0 x1)]
  funext y
  refine View.canon_apply_of_pieces (blk x0 x1) _ (View.PiecesOf.mem ?_) y (cover0_A_2 (Ix := Ix) (U := U) (Lvl := Lvl) 𝒱₀ c i arg1 harg1 arg2 harg2 arg3 harg3 x0 x1 y)
  unfold kernelRun0_A
  dsimp only
  sl_unfold_words
  repeat' first | exact trivial | refine ⟨fun z => piece _ _ (by decide) (by decide) _ _ arg1 harg1 arg2 harg2 x0 x1 z, ?_⟩

variable (V : (c : Dev nD) → (b : Ref sig .tc) → Buf (Elt Ideal) ((c : Thread nD τ).loc b)) (D : Dev nD → CellTallies nD τ sig Ix)

/-- The three windows' blocks at point `t` are the `t`-th along the rows. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every point's block is written back. -/
theorem flush : ∀ t : Fin cfg0.N, (cfg0.win 2).flush t = true := (by decide +kernel : ∀ t : Fin grid0.N, _)

/-- What point `t` writes back is its block of the dequantised array. -/
theorem flushed_eq (c : Dev nD) (t : Fin cfg0.N) :
    (dat (Ix := Ix) (U := U) (Lvl := Lvl) Variants.none V D c).flushed 2 t
      = ((cfg0.win 2).blk t).view.read (Elt Ideal) (w1 (V c main_arg7) (V c main_arg8)) := by
  show (cfg0.win 2).cut (grid0.coords t) ((dat (Ix := Ix) (U := U) (Lvl := Lvl) Variants.none V D c).after 2 t) = _
  rw [after0_2]
  unfold outsAt0
  rw [out_eq]
  obtain ⟨a0, a1, b0, b1, c0, c1⟩ := idx t
  funext y
  have hy0 : (y 0).val < 256 := (y 0).isLt
  have hy1 : (y 1).val < 10240 := (y 1).isLt
  show blk (iblk V c 0 t) (iblk V c 1 t) ((cfg0.win 2).xinj (grid0.coords t) y) = w1 (V c main_arg7) (V c main_arg8) (((cfg0.win 2).blk t).view.emb y)
  unfold blk w1 iblk
  refine congrArg₂ (· * ·) ?_ ?_
  · show V c main_arg7 _ = V c main_arg7 _
    congr 1
  · show V c main_arg8 _ = V c main_arg8 _
    congr 1
    funext d
    apply Fin.ext
    match d with
    | ⟨0, _⟩ => show win0_1.index t (0 : Fin 2) * 256 + 1 * (y 0).val = win0_2.index t (0 : Fin 2) * 256 + 1 * (y 0).val; rw [b0, c0]
    | ⟨1, _⟩ => show win0_1.index t (1 : Fin 2) * 320 + 1 * ((y 1).val / 32) = (win0_2.index t (1 : Fin 2) * 10240 + 1 * (y 1).val) / 32; rw [b1, c1]; omega

/-- An index of the array is in point `t`'s block iff each coordinate is in the block's range on its axis. -/
theorem mem_blk (t : Fin cfg0.N) (i : S7168x10240.Idx) :
    i ∈ ((cfg0.win 2).blk t).view.set ↔ ∀ a : Fin 2, win0_2.index t a * S256x10240.size a ≤ (i a).val ∧ (i a).val < win0_2.index t a * S256x10240.size a + S256x10240.size a := by
  show i ∈ ((View.whole main_v2).slice (win0_2.rect t)).set ↔ _
  rw [View.set_slice_whole, Rect.mem_set_unit]
  exact Iff.rfl

/-- The array after the call: W1 dequantised. -/
theorem final (c : Dev nD) :
    (dat (Ix := Ix) (U := U) (Lvl := Lvl) Variants.none V D c).arrAt 2 cfg0.N = w1 (V c main_arg7) (V c main_arg8) :=
  (dat (Ix := Ix) (U := U) (Lvl := Lvl) Variants.none V D c).arrAt_eq_of_cover 2 _ (fun t _ => flushed_eq V D c t) fun (i : S7168x10240.Idx) => by
    have h0 : (i 0).val < 7168 := (i 0).isLt
    have h1 : (i 1).val < 10240 := (i 1).isLt
    have hN : cfg0.N = 28 := N_0
    refine ⟨⟨(i 0).val / 256, by omega⟩, flush _, ?_⟩
    rw [mem_blk]
    obtain ⟨-, -, -, -, c0, c1⟩ := idx ⟨(i 0).val / 256, by omega⟩
    intro d
    match d with
    | ⟨0, _⟩ => show win0_2.index _ (0 : Fin 2) * 256 ≤ (i 0).val ∧ (i 0).val < win0_2.index _ (0 : Fin 2) * 256 + 256; rw [c0]; dsimp only; omega
    | ⟨1, _⟩ => show win0_2.index _ (1 : Fin 2) * 10240 ≤ (i 1).val ∧ (i 1).val < win0_2.index _ (1 : Fin 2) * 10240 + 10240; rw [c1]; omega
end

end Cert.KernelIdeal.Val.K0

end
-- ==== Proof.Val.K1.lean ====
/- Custom call 1 (the columns of x dequantised), read as a value: its output array ends at each code times the scale of its group of 32 rows. -/
module

public import proofs.«01_k».proof.Proof.Run
public import proofs.«01_k».proof.Proof.Val.Spec
public import Idealize.ShloMosaic.Lib.Pipeline.Value
public import Idealize.ShloMosaic.Lib.Pointwise

@[expose] public section

set_option maxRecDepth 16384

noncomputable section

namespace Cert.KernelIdeal.Val.K1

open Cert.KernelIdeal Cert.KernelIdeal.Gen Cert.KernelIdeal.Own.K1
open Idealize.ShloMosaic Idealize.ShloMosaic.TcCoe
open Idealize.SL Idealize.SL.RA Idealize.SL.Sem
open Idealize.ShloMosaic.Pipeline (Dat)

theorem hz : (![0, 0] : Fin 2 → Nat) = fun _ => 0 := funext fun a => by fin_cases a <;> rfl

section
variable {F : FTy → Type} [FloatOps F]
variable {Ix : Type} [DecidableEq Ix] {U : Type} [URA U] {Lvl : Type} [Preorder Lvl]

/-- What the body leaves in the output's buffer is its payload of the two input blocks. -/
theorem out_eq (𝒱₀ : Variants) (c : Dev nD) (i : grid1.Coords) (arg1 : Memref sig .tc .vmem S256x7168 .fp8e4m3) (harg1 : arg1.IsWhole)
    (arg2 : Memref sig .tc .vmem S8x7168 .f32) (harg2 : arg2.IsWhole) (arg3 : Memref sig .tc .vmem S256x7168 .bf16) (harg3 : arg3.IsWhole)
    (x0 : Vec F S256x7168 .fp8e4m3) (x1 : Vec F S8x7168 .f32) :
    out1_A_2 (Ix := Ix) (U := U) (Lvl := Lvl) 𝒱₀ c i arg1 harg1 arg2 harg2 arg3 harg3 x0 x1 = k1_pay1 x0 x1 := by
  unfold out1_A_2
  rw [View.read_writes_eq_canon _ _ _ (cover1_A_2 (Ix := Ix) (U := U) (Lvl := Lvl) 𝒱₀ c i arg1 harg1 arg2 harg2 arg3 harg3 x0 x1)]
  unfold kernelRun1_A
  dsimp only
  rw [View.canon_unit_zero hz]
  simp only [View.readAt_eq_ld, harg1.read_unread, harg2.read_unread, View.ld_unit_zero (S := S256x7168) hz, View.ld_unit_zero (S := S8x7168) hz]
end

/-- The payload at an index: the code times the scale of its group of 32 rows. -/
theorem pay_at (x0 : Vec Ideal S256x7168 .fp8e4m3) (x1 : Vec Ideal S8x7168 .f32) (a : Fin 256) (b : Fin 7168) :
    k1_pay1 (F := Ideal) x0 x1 (ix2 a b) = x0 (ix2 a b) * x1 (ix2 (n0 := 8) ⟨a.val / 32, by omega⟩ b) := by
  pointwise [k1_pay1]

section
variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The three windows' blocks at point `t` are the `t`-th along the rows. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Every point's block is written back. -/
theorem flush : ∀ t : Fin cfg1.N, (cfg1.win 2).flush t = true := (by decide +kernel : ∀ t : Fin grid1.N, _)

/-- What point `t` writes back is its block of the dequantised array. -/
theorem flushed_eq (c : Dev nD) (t : Fin cfg1.N) :
    (dat (Ix := Ix) (U := U) (Lvl := Lvl) Variants.none V D c).flushed 2 t
      = ((cfg1.win 2).blk t).view.read (Elt Ideal) (x (V c main_v0) (V c main_arg4)) := by
  show (cfg1.win 2).cut (grid1.coords t) ((dat (Ix := Ix) (U := U) (Lvl := Lvl) Variants.none V D c).after 2 t) = _
  rw [after1_2]
  unfold outsAt1
  rw [out_eq]
  obtain ⟨a0, a1, b0, b1, c0, c1⟩ := idx t
  funext y
  have hy0 : (y 0).val < 256 := (y 0).isLt
  have hy1 : (y 1).val < 7168 := (y 1).isLt
  show k1_pay1 (F := Ideal) (iblk V c 0 t) (iblk V c 1 t) (ix2 (n0 := 256) (n1 := 7168) ⟨(y 0).val, hy0⟩ ⟨(y 1).val, hy1⟩) = x (V c main_v0) (V c main_arg4) (((cfg1.win 2).blk t).view.emb y)
  rw [pay_at]
  unfold x iblk
  refine congrArg₂ (· * ·) ?_ ?_
  · show V c main_v0 _ = V c main_v0 _
    congr 1
    funext d
    apply Fin.ext
    match d with
    | ⟨0, _⟩ => show win1_0.index t (0 : Fin 2) * 256 + 1 * (y 0).val = win1_2.index t (0 : Fin 2) * 256 + 1 * (y 0).val; rw [a0, c0]
    | ⟨1, _⟩ => show win1_0.index t (1 : Fin 2) * 7168 + 1 * (y 1).val = win1_2.index t (1 : Fin 2) * 7168 + 1 * (y 1).val; rw [a1, c1]
  · show V c main_arg4 _ = V c main_arg4 _
    congr 1
    funext d
    apply Fin.ext
    match d with
    | ⟨0, _⟩ => show win1_1.index t (0 : Fin 2) * 8 + 1 * ((y 0).val / 32) = (win1_2.index t (0 : Fin 2) * 256 + 1 * (y 0).val) / 32; rw [b0, c0]; omega
    | ⟨1, _⟩ => show win1_1.index t (1 : Fin 2) * 7168 + 1 * (y 1).val = win1_2.index t (1 : Fin 2) * 7168 + 1 * (y 1).val; rw [b1, c1]

/-- An index of the array is in point `t`'s block iff each coordinate is in the block's range on its axis. -/
theorem mem_blk (t : Fin cfg1.N) (i : S8192x7168.Idx) :
    i ∈ ((cfg1.win 2).blk t).view.set ↔ ∀ a : Fin 2, win1_2.index t a * S256x7168.size a ≤ (i a).val ∧ (i a).val < win1_2.index t a * S256x7168.size a + S256x7168.size a := by
  show i ∈ ((View.whole main_v3).slice (win1_2.rect t)).set ↔ _
  rw [View.set_slice_whole, Rect.mem_set_unit]
  exact Iff.rfl

/-- The array after the call: x dequantised. -/
theorem final (c : Dev nD) :
    (dat (Ix := Ix) (U := U) (Lvl := Lvl) Variants.none V D c).arrAt 2 cfg1.N = x (V c main_v0) (V c main_arg4) :=
  (dat (Ix := Ix) (U := U) (Lvl := Lvl) Variants.none V D c).arrAt_eq_of_cover 2 _ (fun t _ => flushed_eq V D c t) fun (i : S8192x7168.Idx) => by
    have h0 : (i 0).val < 8192 := (i 0).isLt
    have h1 : (i 1).val < 7168 := (i 1).isLt
    have hN : cfg1.N = 32 := N_1
    refine ⟨⟨(i 0).val / 256, by omega⟩, flush _, ?_⟩
    rw [mem_blk]
    obtain ⟨-, -, -, -, c0, c1⟩ := idx ⟨(i 0).val / 256, by omega⟩
    intro d
    match d with
    | ⟨0, _⟩ => show win1_2.index _ (0 : Fin 2) * 256 ≤ (i 0).val ∧ (i 0).val < win1_2.index _ (0 : Fin 2) * 256 + 256; rw [c0]; dsimp only; omega
    | ⟨1, _⟩ => show win1_2.index _ (1 : Fin 2) * 7168 ≤ (i 1).val ∧ (i 1).val < win1_2.index _ (1 : Fin 2) * 7168 + 7168; rw [c1]; omega
end

end Cert.KernelIdeal.Val.K1

end
-- ==== Proof.Val.K2.lean ====
/- Custom call 2 (the columns of a dequantised), read as a value: its output array ends at each code times the scale of its group of 32 rows. -/
module

public import proofs.«01_k».proof.Proof.Run
public import proofs.«01_k».proof.Proof.Val.Spec
public import Idealize.ShloMosaic.Lib.Pipeline.Value
public import Idealize.ShloMosaic.Lib.Pointwise

@[expose] public section

set_option maxRecDepth 16384

noncomputable section

namespace Cert.KernelIdeal.Val.K2

open Cert.KernelIdeal Cert.KernelIdeal.Gen Cert.KernelIdeal.Own.K2
open Idealize.ShloMosaic Idealize.ShloMosaic.TcCoe
open Idealize.SL Idealize.SL.RA Idealize.SL.Sem
open Idealize.ShloMosaic.Pipeline (Dat)

theorem hz : (![0, 0] : Fin 2 → Nat) = fun _ => 0 := funext fun a => by fin_cases a <;> rfl

section
variable {F : FTy → Type} [FloatOps F]
variable {Ix : Type} [DecidableEq Ix] {U : Type} [URA U] {Lvl : Type} [Preorder Lvl]

/-- What the body leaves in the output's buffer is its payload of the two input blocks. -/
theorem out_eq (𝒱₀ : Variants) (c : Dev nD) (i : grid2.Coords) (arg1 : Memref sig .tc .vmem S256x5120 .fp8e4m3) (harg1 : arg1.IsWhole)
    (arg2 : Memref sig .tc .vmem S8x5120 .f32) (harg2 : arg2.IsWhole) (arg3 : Memref sig .tc .vmem S256x5120 .bf16) (harg3 : arg3.IsWhole)
    (x0 : Vec F S256x5120 .fp8e4m3) (x1 : Vec F S8x5120 .f32) :
    out2_A_2 (Ix := Ix) (U := U) (Lvl := Lvl) 𝒱₀ c i arg1 harg1 arg2 harg2 arg3 harg3 x0 x1 = k2_pay1 x0 x1 := by
  unfold out2_A_2
  rw [View.read_writes_eq_canon _ _ _ (cover2_A_2 (Ix := Ix) (U := U) (Lvl := Lvl) 𝒱₀ c i arg1 harg1 arg2 harg2 arg3 harg3 x0 x1)]
  unfold kernelRun2_A
  dsimp only
  rw [View.canon_unit_zero hz]
  simp only [View.readAt_eq_ld, harg1.read_unread, harg2.read_unread, View.ld_unit_zero (S := S256x5120) hz, View.ld_unit_zero (S := S8x5120) hz]
end

/-- The payload at an index: the code times the scale of its group of 32 rows. -/
theorem pay_at (x0 : Vec Ideal S256x5120 .fp8e4m3) (x1 : Vec Ideal S8x5120 .f32) (a : Fin 256) (b : Fin 5120) :
    k2_pay1 (F := Ideal) x0 x1 (ix2 a b) = x0 (ix2 a b) * x1 (ix2 (n0 := 8) ⟨a.val / 32, by omega⟩ b) := by
  pointwise [k2_pay1]

section
variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The three windows' blocks at point `t` are the `t`-th along the rows. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Every point's block is written back. -/
theorem flush : ∀ t : Fin cfg2.N, (cfg2.win 2).flush t = true := (by decide +kernel : ∀ t : Fin grid2.N, _)

/-- What point `t` writes back is its block of the dequantised array. -/
theorem flushed_eq (c : Dev nD) (t : Fin cfg2.N) :
    (dat (Ix := Ix) (U := U) (Lvl := Lvl) Variants.none V D c).flushed 2 t
      = ((cfg2.win 2).blk t).view.read (Elt Ideal) (a (V c main_v1) (V c main_arg6)) := by
  show (cfg2.win 2).cut (grid2.coords t) ((dat (Ix := Ix) (U := U) (Lvl := Lvl) Variants.none V D c).after 2 t) = _
  rw [after2_2]
  unfold outsAt2
  rw [out_eq]
  obtain ⟨a0, a1, b0, b1, c0, c1⟩ := idx t
  funext y
  have hy0 : (y 0).val < 256 := (y 0).isLt
  have hy1 : (y 1).val < 5120 := (y 1).isLt
  show k2_pay1 (F := Ideal) (iblk V c 0 t) (iblk V c 1 t) (ix2 (n0 := 256) (n1 := 5120) ⟨(y 0).val, hy0⟩ ⟨(y 1).val, hy1⟩) = a (V c main_v1) (V c main_arg6) (((cfg2.win 2).blk t).view.emb y)
  rw [pay_at]
  unfold a iblk
  refine congrArg₂ (· * ·) ?_ ?_
  · show V c main_v1 _ = V c main_v1 _
    congr 1
    funext d
    apply Fin.ext
    match d with
    | ⟨0, _⟩ => show win2_0.index t (0 : Fin 2) * 256 + 1 * (y 0).val = win2_2.index t (0 : Fin 2) * 256 + 1 * (y 0).val; rw [a0, c0]
    | ⟨1, _⟩ => show win2_0.index t (1 : Fin 2) * 5120 + 1 * (y 1).val = win2_2.index t (1 : Fin 2) * 5120 + 1 * (y 1).val; rw [a1, c1]
  · show V c main_arg6 _ = V c main_arg6 _
    congr 1
    funext d
    apply Fin.ext
    match d with
    | ⟨0, _⟩ => show win2_1.index t (0 : Fin 2) * 8 + 1 * ((y 0).val / 32) = (win2_2.index t (0 : Fin 2) * 256 + 1 * (y 0).val) / 32; rw [b0, c0]; omega
    | ⟨1, _⟩ => show win2_1.index t (1 : Fin 2) * 5120 + 1 * (y 1).val = win2_2.index t (1 : Fin 2) * 5120 + 1 * (y 1).val; rw [b1, c1]

/-- An index of the array is in point `t`'s block iff each coordinate is in the block's range on its axis. -/
theorem mem_blk (t : Fin cfg2.N) (i : S8192x5120.Idx) :
    i ∈ ((cfg2.win 2).blk t).view.set ↔ ∀ a : Fin 2, win2_2.index t a * S256x5120.size a ≤ (i a).val ∧ (i a).val < win2_2.index t a * S256x5120.size a + S256x5120.size a := by
  show i ∈ ((View.whole main_v4).slice (win2_2.rect t)).set ↔ _
  rw [View.set_slice_whole, Rect.mem_set_unit]
  exact Iff.rfl

/-- The array after the call: a dequantised. -/
theorem final (c : Dev nD) :
    (dat (Ix := Ix) (U := U) (Lvl := Lvl) Variants.none V D c).arrAt 2 cfg2.N = a (V c main_v1) (V c main_arg6) :=
  (dat (Ix := Ix) (U := U) (Lvl := Lvl) Variants.none V D c).arrAt_eq_of_cover 2 _ (fun t _ => flushed_eq V D c t) fun (i : S8192x5120.Idx) => by
    have h0 : (i 0).val < 8192 := (i 0).isLt
    have h1 : (i 1).val < 5120 := (i 1).isLt
    have hN : cfg2.N = 32 := N_2
    refine ⟨⟨(i 0).val / 256, by omega⟩, flush _, ?_⟩
    rw [mem_blk]
    obtain ⟨-, -, -, -, c0, c1⟩ := idx ⟨(i 0).val / 256, by omega⟩
    intro d
    match d with
    | ⟨0, _⟩ => show win2_2.index _ (0 : Fin 2) * 256 ≤ (i 0).val ∧ (i 0).val < win2_2.index _ (0 : Fin 2) * 256 + 256; rw [c0]; dsimp only; omega
    | ⟨1, _⟩ => show win2_2.index _ (1 : Fin 2) * 5120 ≤ (i 1).val ∧ (i 1).val < win2_2.index _ (1 : Fin 2) * 5120 + 5120; rw [c1]; omega
end

end Cert.KernelIdeal.Val.K2

end
-- ==== Proof.Val.Acc.lean ====
/- The accumulator of a matrix-product call, read as a sum: after the last block of a sum it holds the sum of the blocks' products. -/
module

public import proofs.«01_k».proof.Proof.Mm.Body
public import Idealize.ShloMosaic.Lib.Pointwise

@[expose] public section

noncomputable section

namespace Cert.KernelIdeal.Val

open Cert.KernelIdeal Cert.KernelIdeal.Mm
open Idealize.ShloMosaic

/-- A step that adds `P` of the two blocks to the accumulator, from zero at each multiple of `nk`, leaves after the `r`-th step
    of the `q`-th sum the sum of the first `r + 1` products. -/
theorem acc_sum {sa sb : Shape} {N : ℕ} (nk : ℕ) (zero : FVec Ideal S1024x1024 .f32)
    (pay : Vec Ideal S1024x1024 .f32 → Vec Ideal sa .bf16 → Vec Ideal sb .bf16 → FVec Ideal S1024x1024 .f32)
    (X0 : Fin N → Vec Ideal sa .bf16) (X1 : Fin N → Vec Ideal sb .bf16)
    (P : Vec Ideal sa .bf16 → Vec Ideal sb .bf16 → EReal) (j : S1024x1024.Idx)
    (hz : zero j = (0 : EReal)) (hp : ∀ v p q, pay v p q j = (v j + P p q : EReal)) (q : ℕ) :
    ∀ (r : ℕ) (_ : r < nk) (h : nk * q + r < N),
      acc nk zero pay X0 X1 (nk * q + r) h
        j = ∑ s : Fin (r + 1), P (X0 ⟨nk * q + s.val, by omega⟩) (X1 ⟨nk * q + s.val, by omega⟩)
  | 0, hr, h => by
    rw [acc_first nk zero pay X0 X1 (nk * q + 0) h (by simp), hp, hz, zero_add, Fin.sum_univ_one]
    rfl
  | r + 1, hr, h => by
    rw [Fin.sum_univ_castSucc]
    refine (congrFun (acc_next nk zero pay X0 X1 (nk * q + r) h ?_) j).trans ?_
    · rw [show nk * q + r + 1 = (r + 1) + nk * q from by omega, Nat.add_mul_mod_self_left, Nat.mod_eq_of_lt hr]; omega
    rw [hp, acc_sum nk zero pay X0 X1 P j hz hp q r (by omega) (by omega)]
    rfl

end Cert.KernelIdeal.Val

end
-- ==== Proof.Val.K3.lean ====
/- Custom call 3 (the product for dX), read as a value: its output array ends at the whole product of its two input arrays. -/
module

public import proofs.«01_k».proof.Proof.Run
public import proofs.«01_k».proof.Proof.Val.Spec
public import proofs.«01_k».proof.Proof.Val.Acc
public import Idealize.ShloMosaic.Lib.Pipeline.Value
public import Idealize.ShloMosaic.Lib.Pointwise

@[expose] public section

set_option maxRecDepth 16384

noncomputable section

namespace Cert.KernelIdeal.Val.K3

open Cert.KernelIdeal Cert.KernelIdeal.Gen Cert.KernelIdeal.Mm.K3
open Idealize.ShloMosaic Idealize.ShloMosaic.TcCoe
open Idealize.SL Idealize.SL.RA Idealize.SL.Sem
open Idealize.ShloMosaic.Pipeline (Dat)

/-- The step at an index adds the product of the two blocks there. -/
theorem pay_at (v : Vec Ideal S1024x1024 .f32) (p q : Vec Ideal S1024x2048 .bf16) (a b : Fin 1024) :
    k3_pay2 (F := Ideal) v p q (ix2 a b) = v (ix2 a b) + ∑ k : Fin 2048, p (ix2 a k) * q (ix2 b k) := by
  pointwise [k3_pay2]

/-- The cleared accumulator is zero everywhere. -/
theorem zero_at (a b : Fin 1024) : k3_pay1 (F := Ideal) (ix2 a b) = 0 := by
  pointwise [k3_pay1]

/-- Rounding the accumulator into the output block changes no value. -/
theorem round_at (v : Vec Ideal S1024x1024 .f32) (a b : Fin 1024) : k3_pay3 (F := Ideal) v (ix2 a b) = v (ix2 a b) := by
  pointwise [k3_pay3]

section
variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The windows' blocks at point `t`, in row-major order over the grid. -/
theorem idx : ∀ t : Fin cfg3.N, win3_0.index t (0 : Fin 2) = t.val / 35 ∧ win3_0.index t (1 : Fin 2) = t.val % 5
    ∧ win3_1.index t (0 : Fin 2) = t.val / 5 % 7 ∧ win3_1.index t (1 : Fin 2) = t.val % 5
    ∧ win3_2.index t (0 : Fin 2) = t.val / 35 ∧ win3_2.index t (1 : Fin 2) = t.val / 5 % 7 :=
  (by decide +kernel : ∀ t : Fin grid3.N, _)

/-- A block is written back at the last point of its sum only. -/
theorem flush : ∀ t : Fin cfg3.N, (cfg3.win 2).flush t = true ↔ t.val % 5 = 4 := (by decide +kernel : ∀ t : Fin grid3.N, _)

/-- The first input's block at an index. -/
theorem x0_at (c : Dev nD) (t : Fin cfg3.N) (a : Fin 1024) (k : Fin 2048) (i : S8192x10240.Idx)
    (h0 : (i 0).val = 1024 * (t.val / 35) + a.val) (h1 : (i 1).val = 2048 * (t.val % 5) + k.val) :
    X0 V c t (ix2 a k) = V c main_arg0 i := by
  obtain ⟨e0, e1, -⟩ := idx t
  show V c main_arg0 _ = V c main_arg0 _
  congr 1
  funext d
  apply Fin.ext
  match d with
  | ⟨0, _⟩ => show win3_0.index t (0 : Fin 2) * 1024 + 1 * a.val = (i 0).val; rw [e0, h0]; omega
  | ⟨1, _⟩ => show win3_0.index t (1 : Fin 2) * 2048 + 1 * k.val = (i 1).val; rw [e1, h1]; omega

/-- The second input's block at an index. -/
theorem x1_at (c : Dev nD) (t : Fin cfg3.N) (b : Fin 1024) (k : Fin 2048) (i : S7168x10240.Idx)
    (h0 : (i 0).val = 1024 * (t.val / 5 % 7) + b.val) (h1 : (i 1).val = 2048 * (t.val % 5) + k.val) :
    X1 V c t (ix2 b k) = V c main_v2 i := by
  obtain ⟨-, -, e0, e1, -⟩ := idx t
  show V c main_v2 _ = V c main_v2 _
  congr 1
  funext d
  apply Fin.ext
  match d with
  | ⟨0, _⟩ => show win3_1.index t (0 : Fin 2) * 1024 + 1 * b.val = (i 0).val; rw [e0, h0]; omega
  | ⟨1, _⟩ => show win3_1.index t (1 : Fin 2) * 2048 + 1 * k.val = (i 1).val; rw [e1, h1]; omega

/-- The accumulator where a sum ends: the whole product at the block's place in the array. -/
theorem acc_at (c : Dev nD) (t : Fin cfg3.N) (ht : t.val % 5 = 4) (a b : Fin 1024) (i : S8192x7168.Idx)
    (h0 : (i 0).val = 1024 * (t.val / 35) + a.val) (h1 : (i 1).val = 1024 * (t.val / 5 % 7) + b.val) :
    accAt V c t.val t.isLt (ix2 a b) = dx (V c main_arg0) (V c main_v2) i := by
  obtain ⟨n, hn⟩ := t
  dsimp only at ht h0 h1 ⊢
  obtain ⟨q, rfl⟩ : ∃ q, n = 5 * q + 4 := ⟨n / 5, by omega⟩
  have hN : cfg3.N = 280 := N_3
  refine (acc_sum 5 k3_pay1 k3_pay2 (X0 V c) (X1 V c) (fun p q => ∑ k : Fin 2048, p (ix2 a k) * q (ix2 b k)) (ix2 a b)
    (zero_at a b) (fun v p q => pay_at v p q a b) q 4 (by decide) hn).trans ?_
  unfold dx
  rw [Fin.sum_univ_tiles 5 2048 rfl]
  refine Finset.sum_congr rfl fun s _ => Finset.sum_congr rfl fun k _ => ?_
  have hs := s.isLt
  refine congrArg₂ (· * ·) (x0_at V c _ a k _ ?_ ?_) (x1_at V c _ b k _ ?_ ?_)
  · show (i 0).val = 1024 * ((5 * q + s.val) / 35) + a.val; omega
  · show s.val * 2048 + k.val = 2048 * ((5 * q + s.val) % 5) + k.val; omega
  · show (i 1).val = 1024 * ((5 * q + s.val) / 5 % 7) + b.val; omega
  · show s.val * 2048 + k.val = 2048 * ((5 * q + s.val) % 5) + k.val; omega

/-- What a point ending a sum writes back is its block of the product. -/
theorem flushed_eq (c : Dev nD) (t : Fin cfg3.N) (hf : (cfg3.win 2).flush t = true) :
    (dat (Ix := Ix) (U := U) (Lvl := Lvl) V D c).flushed 2 t
      = ((cfg3.win 2).blk t).view.read (Elt Ideal) (dx (V c main_arg0) (V c main_v2)) := by
  show (cfg3.win 2).cut (grid3.coords t) ((dat (Ix := Ix) (U := U) (Lvl := Lvl) V D c).after 2 t) = _
  rw [after2]
  obtain ⟨-, -, -, -, e0, e1⟩ := idx t
  funext y
  have hy0 : (y 0).val < 1024 := (y 0).isLt
  have hy1 : (y 1).val < 1024 := (y 1).isLt
  have hy : (cfg3.win 2).xinj (grid3.coords t) y = ix2 (n0 := 1024) (n1 := 1024) ⟨(y 0).val, hy0⟩ ⟨(y 1).val, hy1⟩ := by
    funext d
    match d with
    | ⟨0, _⟩ => rfl
    | ⟨1, _⟩ => rfl
  show k3_pay3 (F := Ideal) (accAt V c t.val t.isLt) ((cfg3.win 2).xinj (grid3.coords t) y) = dx (V c main_arg0) (V c main_v2) (((cfg3.win 2).blk t).view.emb y)
  rw [hy]
  rw [round_at]
  refine acc_at V c t ((flush t).mp hf) _ _ _ ?_ ?_
  · show win3_2.index t (0 : Fin 2) * 1024 + 1 * (y 0).val = _; rw [e0]; dsimp only; omega
  · show win3_2.index t (1 : Fin 2) * 1024 + 1 * (y 1).val = _; rw [e1]; dsimp only; omega

/-- An index of the array is in point `t`'s block iff each coordinate is in the block's range on its axis. -/
theorem mem_blk (t : Fin cfg3.N) (i : S8192x7168.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v5).slice (win3_2.rect t)).set ↔ _
  rw [View.set_slice_whole, Rect.mem_set_unit]
  exact Iff.rfl

/-- The array after the call: the product for dX. -/
theorem final (c : Dev nD) :
    (dat (Ix := Ix) (U := U) (Lvl := Lvl) V D c).arrAt 2 cfg3.N = dx (V c main_arg0) (V c main_v2) :=
  (dat (Ix := Ix) (U := U) (Lvl := Lvl) V D c).arrAt_eq_of_cover 2 _ (fun t hf => flushed_eq V D c t hf) fun (i : S8192x7168.Idx) => by
    have h0 : (i 0).val < 8192 := (i 0).isLt
    have h1 : (i 1).val < 7168 := (i 1).isLt
    have hN : cfg3.N = 280 := N_3
    have ht : (i 0).val / 1024 * 35 + (i 1).val / 1024 * 5 + 4 < cfg3.N := by omega
    refine ⟨⟨_, ht⟩, (flush _).mpr (by dsimp only; omega), ?_⟩
    rw [mem_blk]
    obtain ⟨-, -, -, -, e0, e1⟩ := idx ⟨_, ht⟩
    dsimp only at e0 e1
    intro d
    match d with
    | ⟨0, _⟩ => show win3_2.index _ (0 : Fin 2) * 1024 ≤ (i 0).val ∧ (i 0).val < win3_2.index _ (0 : Fin 2) * 1024 + 1024; rw [e0]; omega
    | ⟨1, _⟩ => show win3_2.index _ (1 : Fin 2) * 1024 ≤ (i 1).val ∧ (i 1).val < win3_2.index _ (1 : Fin 2) * 1024 + 1024; rw [e1]; omega
end

end Cert.KernelIdeal.Val.K3

end
-- ==== Proof.Val.K4.lean ====
/- Custom call 4 (the product for dW1), read as a value: its output array ends at the whole product of its two input arrays. -/
module

public import proofs.«01_k».proof.Proof.Run
public import proofs.«01_k».proof.Proof.Val.Spec
public import proofs.«01_k».proof.Proof.Val.Acc
public import Idealize.ShloMosaic.Lib.Pipeline.Value
public import Idealize.ShloMosaic.Lib.Pointwise

@[expose] public section

set_option maxRecDepth 16384

noncomputable section

namespace Cert.KernelIdeal.Val.K4

open Cert.KernelIdeal Cert.KernelIdeal.Gen Cert.KernelIdeal.Mm.K4
open Idealize.ShloMosaic Idealize.ShloMosaic.TcCoe
open Idealize.SL Idealize.SL.RA Idealize.SL.Sem
open Idealize.ShloMosaic.Pipeline (Dat)

/-- The step at an index adds the product of the two blocks there. -/
theorem pay_at (v : Vec Ideal S1024x1024 .f32) (p q : Vec Ideal S2048x1024 .bf16) (a b : Fin 1024) :
    k4_pay2 (F := Ideal) v p q (ix2 a b) = v (ix2 a b) + ∑ k : Fin 2048, p (ix2 k a) * q (ix2 k b) := by
  pointwise [k4_pay2]

/-- The cleared accumulator is zero everywhere. -/
theorem zero_at (a b : Fin 1024) : k4_pay1 (F := Ideal) (ix2 a b) = 0 := by
  pointwise [k4_pay1]

/-- Rounding the accumulator into the output block changes no value. -/
theorem round_at (v : Vec Ideal S1024x1024 .f32) (a b : Fin 1024) : k4_pay3 (F := Ideal) v (ix2 a b) = v (ix2 a b) := by
  pointwise [k4_pay3]

section
variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The windows' blocks at point `t`, in row-major order over the grid. -/
theorem idx : ∀ t : Fin cfg4.N, win4_0.index t (0 : Fin 2) = t.val % 4 ∧ win4_0.index t (1 : Fin 2) = t.val / 40
    ∧ win4_1.index t (0 : Fin 2) = t.val % 4 ∧ win4_1.index t (1 : Fin 2) = t.val / 4 % 10
    ∧ win4_2.index t (0 : Fin 2) = t.val / 40 ∧ win4_2.index t (1 : Fin 2) = t.val / 4 % 10 :=
  (by decide +kernel : ∀ t : Fin grid4.N, _)

/-- A block is written back at the last point of its sum only. -/
theorem flush : ∀ t : Fin cfg4.N, (cfg4.win 2).flush t = true ↔ t.val % 4 = 3 := (by decide +kernel : ∀ t : Fin grid4.N, _)

/-- The first input's block at an index. -/
theorem x0_at (c : Dev nD) (t : Fin cfg4.N) (k : Fin 2048) (a : Fin 1024) (i : S8192x7168.Idx)
    (h0 : (i 0).val = 2048 * (t.val % 4) + k.val) (h1 : (i 1).val = 1024 * (t.val / 40) + a.val) :
    X0 V c t (ix2 k a) = V c main_v3 i := by
  obtain ⟨e0, e1, -⟩ := idx t
  show V c main_v3 _ = V c main_v3 _
  congr 1
  funext d
  apply Fin.ext
  match d with
  | ⟨0, _⟩ => show win4_0.index t (0 : Fin 2) * 2048 + 1 * k.val = (i 0).val; rw [e0, h0]; omega
  | ⟨1, _⟩ => show win4_0.index t (1 : Fin 2) * 1024 + 1 * a.val = (i 1).val; rw [e1, h1]; omega

/-- The second input's block at an index. -/
theorem x1_at (c : Dev nD) (t : Fin cfg4.N) (k : Fin 2048) (b : Fin 1024) (i : S8192x10240.Idx)
    (h0 : (i 0).val = 2048 * (t.val % 4) + k.val) (h1 : (i 1).val = 1024 * (t.val / 4 % 10) + b.val) :
    X1 V c t (ix2 k b) = V c main_arg1 i := by
  obtain ⟨-, -, e0, e1, -⟩ := idx t
  show V c main_arg1 _ = V c main_arg1 _
  congr 1
  funext d
  apply Fin.ext
  match d with
  | ⟨0, _⟩ => show win4_1.index t (0 : Fin 2) * 2048 + 1 * k.val = (i 0).val; rw [e0, h0]; omega
  | ⟨1, _⟩ => show win4_1.index t (1 : Fin 2) * 1024 + 1 * b.val = (i 1).val; rw [e1, h1]; omega

/-- The accumulator where a sum ends: the whole product at the block's place in the array. -/
theorem acc_at (c : Dev nD) (t : Fin cfg4.N) (ht : t.val % 4 = 3) (a b : Fin 1024) (i : S7168x10240.Idx)
    (h0 : (i 0).val = 1024 * (t.val / 40) + a.val) (h1 : (i 1).val = 1024 * (t.val / 4 % 10) + b.val) :
    accAt V c t.val t.isLt (ix2 a b) = dw1 (V c main_v3) (V c main_arg1) i := by
  obtain ⟨n, hn⟩ := t
  dsimp only at ht h0 h1 ⊢
  obtain ⟨q, rfl⟩ : ∃ q, n = 4 * q + 3 := ⟨n / 4, by omega⟩
  have hN : cfg4.N = 280 := N_4
  refine (acc_sum 4 k4_pay1 k4_pay2 (X0 V c) (X1 V c) (fun p q => ∑ k : Fin 2048, p (ix2 k a) * q (ix2 k b)) (ix2 a b)
    (zero_at a b) (fun v p q => pay_at v p q a b) q 3 (by decide) hn).trans ?_
  unfold dw1
  rw [Fin.sum_univ_tiles 4 2048 rfl]
  refine Finset.sum_congr rfl fun s _ => Finset.sum_congr rfl fun k _ => ?_
  have hs := s.isLt
  refine congrArg₂ (· * ·) (x0_at V c _ k a _ ?_ ?_) (x1_at V c _ k b _ ?_ ?_)
  · show s.val * 2048 + k.val = 2048 * ((4 * q + s.val) % 4) + k.val; omega
  · show (i 0).val = 1024 * ((4 * q + s.val) / 40) + a.val; omega
  · show s.val * 2048 + k.val = 2048 * ((4 * q + s.val) % 4) + k.val; omega
  · show (i 1).val = 1024 * ((4 * q + s.val) / 4 % 10) + b.val; omega

/-- What a point ending a sum writes back is its block of the product. -/
theorem flushed_eq (c : Dev nD) (t : Fin cfg4.N) (hf : (cfg4.win 2).flush t = true) :
    (dat (Ix := Ix) (U := U) (Lvl := Lvl) V D c).flushed 2 t
      = ((cfg4.win 2).blk t).view.read (Elt Ideal) (dw1 (V c main_v3) (V c main_arg1)) := by
  show (cfg4.win 2).cut (grid4.coords t) ((dat (Ix := Ix) (U := U) (Lvl := Lvl) V D c).after 2 t) = _
  rw [after2]
  obtain ⟨-, -, -, -, e0, e1⟩ := idx t
  funext y
  have hy0 : (y 0).val < 1024 := (y 0).isLt
  have hy1 : (y 1).val < 1024 := (y 1).isLt
  have hy : (cfg4.win 2).xinj (grid4.coords t) y = ix2 (n0 := 1024) (n1 := 1024) ⟨(y 0).val, hy0⟩ ⟨(y 1).val, hy1⟩ := by
    funext d
    match d with
    | ⟨0, _⟩ => rfl
    | ⟨1, _⟩ => rfl
  show k4_pay3 (F := Ideal) (accAt V c t.val t.isLt) ((cfg4.win 2).xinj (grid4.coords t) y) = dw1 (V c main_v3) (V c main_arg1) (((cfg4.win 2).blk t).view.emb y)
  rw [hy]
  rw [round_at]
  refine acc_at V c t ((flush t).mp hf) _ _ _ ?_ ?_
  · show win4_2.index t (0 : Fin 2) * 1024 + 1 * (y 0).val = _; rw [e0]; dsimp only; omega
  · show win4_2.index t (1 : Fin 2) * 1024 + 1 * (y 1).val = _; rw [e1]; dsimp only; omega

/-- An index of the array is in point `t`'s block iff each coordinate is in the block's range on its axis. -/
theorem mem_blk (t : Fin cfg4.N) (i : S7168x10240.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v6).slice (win4_2.rect t)).set ↔ _
  rw [View.set_slice_whole, Rect.mem_set_unit]
  exact Iff.rfl

/-- The array after the call: the product for dW1. -/
theorem final (c : Dev nD) :
    (dat (Ix := Ix) (U := U) (Lvl := Lvl) V D c).arrAt 2 cfg4.N = dw1 (V c main_v3) (V c main_arg1) :=
  (dat (Ix := Ix) (U := U) (Lvl := Lvl) V D c).arrAt_eq_of_cover 2 _ (fun t hf => flushed_eq V D c t hf) fun (i : S7168x10240.Idx) => by
    have h0 : (i 0).val < 7168 := (i 0).isLt
    have h1 : (i 1).val < 10240 := (i 1).isLt
    have hN : cfg4.N = 280 := N_4
    have ht : (i 0).val / 1024 * 40 + (i 1).val / 1024 * 4 + 3 < cfg4.N := by omega
    refine ⟨⟨_, ht⟩, (flush _).mpr (by dsimp only; omega), ?_⟩
    rw [mem_blk]
    obtain ⟨-, -, -, -, e0, e1⟩ := idx ⟨_, ht⟩
    dsimp only at e0 e1
    intro d
    match d with
    | ⟨0, _⟩ => show win4_2.index _ (0 : Fin 2) * 1024 ≤ (i 0).val ∧ (i 0).val < win4_2.index _ (0 : Fin 2) * 1024 + 1024; rw [e0]; omega
    | ⟨1, _⟩ => show win4_2.index _ (1 : Fin 2) * 1024 ≤ (i 1).val ∧ (i 1).val < win4_2.index _ (1 : Fin 2) * 1024 + 1024; rw [e1]; omega
end

end Cert.KernelIdeal.Val.K4

end
-- ==== Proof.Val.K5.lean ====
/- Custom call 5 (the product for dW2), read as a value: its output array ends at the whole product of its two input arrays. -/
module

public import proofs.«01_k».proof.Proof.Run
public import proofs.«01_k».proof.Proof.Val.Spec
public import proofs.«01_k».proof.Proof.Val.Acc
public import Idealize.ShloMosaic.Lib.Pipeline.Value
public import Idealize.ShloMosaic.Lib.Pointwise

@[expose] public section

set_option maxRecDepth 16384

noncomputable section

namespace Cert.KernelIdeal.Val.K5

open Cert.KernelIdeal Cert.KernelIdeal.Gen Cert.KernelIdeal.Mm.K5
open Idealize.ShloMosaic Idealize.ShloMosaic.TcCoe
open Idealize.SL Idealize.SL.RA Idealize.SL.Sem
open Idealize.ShloMosaic.Pipeline (Dat)

/-- The step at an index adds the product of the two blocks there. -/
theorem pay_at (v : Vec Ideal S1024x1024 .f32) (p q : Vec Ideal S2048x1024 .bf16) (a b : Fin 1024) :
    k5_pay2 (F := Ideal) v p q (ix2 a b) = v (ix2 a b) + ∑ k : Fin 2048, p (ix2 k a) * q (ix2 k b) := by
  pointwise [k5_pay2]

/-- The cleared accumulator is zero everywhere. -/
theorem zero_at (a b : Fin 1024) : k5_pay1 (F := Ideal) (ix2 a b) = 0 := by
  pointwise [k5_pay1]

/-- Rounding the accumulator into the output block changes no value. -/
theorem round_at (v : Vec Ideal S1024x1024 .f32) (a b : Fin 1024) : k5_pay3 (F := Ideal) v (ix2 a b) = v (ix2 a b) := by
  pointwise [k5_pay3]

section
variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- The windows' blocks at point `t`, in row-major order over the grid. -/
theorem idx : ∀ t : Fin cfg5.N, win5_0.index t (0 : Fin 2) = t.val % 4 ∧ win5_0.index t (1 : Fin 2) = t.val / 28
    ∧ win5_1.index t (0 : Fin 2) = t.val % 4 ∧ win5_1.index t (1 : Fin 2) = t.val / 4 % 7
    ∧ win5_2.index t (0 : Fin 2) = t.val / 28 ∧ win5_2.index t (1 : Fin 2) = t.val / 4 % 7 :=
  (by decide +kernel : ∀ t : Fin grid5.N, _)

/-- A block is written back at the last point of its sum only. -/
theorem flush : ∀ t : Fin cfg5.N, (cfg5.win 2).flush t = true ↔ t.val % 4 = 3 := (by decide +kernel : ∀ t : Fin grid5.N, _)

/-- The first input's block at an index. -/
theorem x0_at (c : Dev nD) (t : Fin cfg5.N) (k : Fin 2048) (a : Fin 1024) (i : S8192x5120.Idx)
    (h0 : (i 0).val = 2048 * (t.val % 4) + k.val) (h1 : (i 1).val = 1024 * (t.val / 28) + a.val) :
    X0 V c t (ix2 k a) = V c main_v4 i := by
  obtain ⟨e0, e1, -⟩ := idx t
  show V c main_v4 _ = V c main_v4 _
  congr 1
  funext d
  apply Fin.ext
  match d with
  | ⟨0, _⟩ => show win5_0.index t (0 : Fin 2) * 2048 + 1 * k.val = (i 0).val; rw [e0, h0]; omega
  | ⟨1, _⟩ => show win5_0.index t (1 : Fin 2) * 1024 + 1 * a.val = (i 1).val; rw [e1, h1]; omega

/-- The second input's block at an index. -/
theorem x1_at (c : Dev nD) (t : Fin cfg5.N) (k : Fin 2048) (b : Fin 1024) (i : S8192x7168.Idx)
    (h0 : (i 0).val = 2048 * (t.val % 4) + k.val) (h1 : (i 1).val = 1024 * (t.val / 4 % 7) + b.val) :
    X1 V c t (ix2 k b) = V c main_arg2 i := by
  obtain ⟨-, -, e0, e1, -⟩ := idx t
  show V c main_arg2 _ = V c main_arg2 _
  congr 1
  funext d
  apply Fin.ext
  match d with
  | ⟨0, _⟩ => show win5_1.index t (0 : Fin 2) * 2048 + 1 * k.val = (i 0).val; rw [e0, h0]; omega
  | ⟨1, _⟩ => show win5_1.index t (1 : Fin 2) * 1024 + 1 * b.val = (i 1).val; rw [e1, h1]; omega

/-- The accumulator where a sum ends: the whole product at the block's place in the array. -/
theorem acc_at (c : Dev nD) (t : Fin cfg5.N) (ht : t.val % 4 = 3) (a b : Fin 1024) (i : S5120x7168.Idx)
    (h0 : (i 0).val = 1024 * (t.val / 28) + a.val) (h1 : (i 1).val = 1024 * (t.val / 4 % 7) + b.val) :
    accAt V c t.val t.isLt (ix2 a b) = dw2 (V c main_v4) (V c main_arg2) i := by
  obtain ⟨n, hn⟩ := t
  dsimp only at ht h0 h1 ⊢
  obtain ⟨q, rfl⟩ : ∃ q, n = 4 * q + 3 := ⟨n / 4, by omega⟩
  have hN : cfg5.N = 140 := N_5
  refine (acc_sum 4 k5_pay1 k5_pay2 (X0 V c) (X1 V c) (fun p q => ∑ k : Fin 2048, p (ix2 k a) * q (ix2 k b)) (ix2 a b)
    (zero_at a b) (fun v p q => pay_at v p q a b) q 3 (by decide) hn).trans ?_
  unfold dw2
  rw [Fin.sum_univ_tiles 4 2048 rfl]
  refine Finset.sum_congr rfl fun s _ => Finset.sum_congr rfl fun k _ => ?_
  have hs := s.isLt
  refine congrArg₂ (· * ·) (x0_at V c _ k a _ ?_ ?_) (x1_at V c _ k b _ ?_ ?_)
  · show s.val * 2048 + k.val = 2048 * ((4 * q + s.val) % 4) + k.val; omega
  · show (i 0).val = 1024 * ((4 * q + s.val) / 28) + a.val; omega
  · show s.val * 2048 + k.val = 2048 * ((4 * q + s.val) % 4) + k.val; omega
  · show (i 1).val = 1024 * ((4 * q + s.val) / 4 % 7) + b.val; omega

/-- What a point ending a sum writes back is its block of the product. -/
theorem flushed_eq (c : Dev nD) (t : Fin cfg5.N) (hf : (cfg5.win 2).flush t = true) :
    (dat (Ix := Ix) (U := U) (Lvl := Lvl) V D c).flushed 2 t
      = ((cfg5.win 2).blk t).view.read (Elt Ideal) (dw2 (V c main_v4) (V c main_arg2)) := by
  show (cfg5.win 2).cut (grid5.coords t) ((dat (Ix := Ix) (U := U) (Lvl := Lvl) V D c).after 2 t) = _
  rw [after2]
  obtain ⟨-, -, -, -, e0, e1⟩ := idx t
  funext y
  have hy0 : (y 0).val < 1024 := (y 0).isLt
  have hy1 : (y 1).val < 1024 := (y 1).isLt
  have hy : (cfg5.win 2).xinj (grid5.coords t) y = ix2 (n0 := 1024) (n1 := 1024) ⟨(y 0).val, hy0⟩ ⟨(y 1).val, hy1⟩ := by
    funext d
    match d with
    | ⟨0, _⟩ => rfl
    | ⟨1, _⟩ => rfl
  show k5_pay3 (F := Ideal) (accAt V c t.val t.isLt) ((cfg5.win 2).xinj (grid5.coords t) y) = dw2 (V c main_v4) (V c main_arg2) (((cfg5.win 2).blk t).view.emb y)
  rw [hy]
  rw [round_at]
  refine acc_at V c t ((flush t).mp hf) _ _ _ ?_ ?_
  · show win5_2.index t (0 : Fin 2) * 1024 + 1 * (y 0).val = _; rw [e0]; dsimp only; omega
  · show win5_2.index t (1 : Fin 2) * 1024 + 1 * (y 1).val = _; rw [e1]; dsimp only; omega

/-- An index of the array is in point `t`'s block iff each coordinate is in the block's range on its axis. -/
theorem mem_blk (t : Fin cfg5.N) (i : S5120x7168.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole main_v7).slice (win5_2.rect t)).set ↔ _
  rw [View.set_slice_whole, Rect.mem_set_unit]
  exact Iff.rfl

/-- The array after the call: the product for dW2. -/
theorem final (c : Dev nD) :
    (dat (Ix := Ix) (U := U) (Lvl := Lvl) V D c).arrAt 2 cfg5.N = dw2 (V c main_v4) (V c main_arg2) :=
  (dat (Ix := Ix) (U := U) (Lvl := Lvl) V D c).arrAt_eq_of_cover 2 _ (fun t hf => flushed_eq V D c t hf) fun (i : S5120x7168.Idx) => by
    have h0 : (i 0).val < 5120 := (i 0).isLt
    have h1 : (i 1).val < 7168 := (i 1).isLt
    have hN : cfg5.N = 140 := N_5
    have ht : (i 0).val / 1024 * 28 + (i 1).val / 1024 * 4 + 3 < cfg5.N := by omega
    refine ⟨⟨_, ht⟩, (flush _).mpr (by dsimp only; omega), ?_⟩
    rw [mem_blk]
    obtain ⟨-, -, -, -, e0, e1⟩ := idx ⟨_, ht⟩
    dsimp only at e0 e1
    intro d
    match d with
    | ⟨0, _⟩ => show win5_2.index _ (0 : Fin 2) * 1024 ≤ (i 0).val ∧ (i 0).val < win5_2.index _ (0 : Fin 2) * 1024 + 1024; rw [e0]; omega
    | ⟨1, _⟩ => show win5_2.index _ (1 : Fin 2) * 1024 ≤ (i 1).val ∧ (i 1).val < win5_2.index _ (1 : Fin 2) * 1024 + 1024; rw [e1]; omega
end

end Cert.KernelIdeal.Val.K5

end
-- ==== Proof.Val.Chain.lean ====
/- The kernel's three results as functions of the arguments: each call's array read off the contents it was entered with. -/
module

public import proofs.«01_k».proof.Proof.Ends
public import proofs.«01_k».proof.Proof.Val.K0
public import proofs.«01_k».proof.Proof.Val.K1
public import proofs.«01_k».proof.Proof.Val.K2
public import proofs.«01_k».proof.Proof.Val.K3
public import proofs.«01_k».proof.Proof.Val.K4
public import proofs.«01_k».proof.Proof.Val.K5

@[expose] public section

set_option maxRecDepth 16384

noncomputable section

namespace Cert.KernelIdeal.Val

open Cert.KernelIdeal Cert.KernelIdeal.Gen Cert.KernelIdeal.Run
open Idealize.ShloMosaic Idealize.ShloMosaic.TcCoe

variable (m : (ℓ : Loc nD τ sig) → Buf (Elt Ideal) ℓ)

/-- The codes of x after the first line of host reshapes: the batch axis merged into the rows. -/
theorem W1_v0 (c : Dev nD) : (W1 m c main_v0 : Vec Ideal S8192x7168 .fp8e4m3)
    = shapeCast S8192x7168 (m ((c : Thread nD τ).loc main_arg3) : Vec Ideal S8x1024x7168 .fp8e4m3) shapeCasts_S8x1024x7168_S8192x7168 := by
  unfold W1
  after_results_simp
  rfl

/-- The codes of a, likewise. -/
theorem W1_v1 (c : Dev nD) : (W1 m c main_v1 : Vec Ideal S8192x5120 .fp8e4m3)
    = shapeCast S8192x5120 (m ((c : Thread nD τ).loc main_arg5) : Vec Ideal S8x1024x5120 .fp8e4m3) shapeCasts_S8x1024x5120_S8192x5120 := by
  unfold W1
  after_results_simp
  rfl

/-- Call 0's array: W1 dequantised. -/
theorem W2_v2 (c : Dev nD) : W2 m c main_v2 = w1 (m ((c : Thread nD τ).loc main_arg7)) (m ((c : Thread nD τ).loc main_arg8)) := by
  refine (Pipeline.afterRegion_arr (d0 m c) (W1 m c) launch0.win.arr_inj 2).trans ?_
  refine (K0.final _ 0 c).trans ?_
  rw [W1_of m c main_arg7 (by decide), W1_of m c main_arg8 (by decide)]

/-- Call 1's array: x dequantised. -/
theorem W3_v3 (c : Dev nD) : W3 m c main_v3 = x (W1 m c main_v0) (m ((c : Thread nD τ).loc main_arg4)) := by
  refine (Pipeline.afterRegion_arr (d1 m c) (W2 m c) launch1.win.arr_inj 2).trans ?_
  refine (K1.final _ 0 c).trans ?_
  rw [W2_of m c main_v0 (by decide), W2_of m c main_arg4 (by decide), W1_of m c main_arg4 (by decide)]

/-- Call 2's array: a dequantised. -/
theorem W4_v4 (c : Dev nD) : W4 m c main_v4 = a (W1 m c main_v1) (m ((c : Thread nD τ).loc main_arg6)) := by
  refine (Pipeline.afterRegion_arr (d2 m c) (W3 m c) launch2.win.arr_inj 2).trans ?_
  refine (K2.final _ 0 c).trans ?_
  rw [W3_of m c main_v1 (by decide), W3_of m c main_arg6 (by decide), W2_of m c main_v1 (by decide), W2_of m c main_arg6 (by decide), W1_of m c main_arg6 (by decide)]

/-- Call 3's array: the product for dX. -/
theorem W5_v5 (c : Dev nD) : W5 m c main_v5 = dx (m ((c : Thread nD τ).loc main_arg0)) (W2 m c main_v2) := by
  refine (Pipeline.afterRegion_arr (d3 m c) (W4 m c) launch3.win.arr_inj 2).trans ?_
  refine (K3.final _ 0 c).trans ?_
  rw [W4_of m c main_arg0 (by decide), W3_of m c main_arg0 (by decide), W2_of m c main_arg0 (by decide), W1_of m c main_arg0 (by decide),
    W4_of m c main_v2 (by decide), W3_of m c main_v2 (by decide)]

/-- Call 4's array: the product for dW1. -/
theorem W6_v6 (c : Dev nD) : W6 m c main_v6 = dw1 (W3 m c main_v3) (m ((c : Thread nD τ).loc main_arg1)) := by
  refine (Pipeline.afterRegion_arr (d4 m c) (W5 m c) launch4.win.arr_inj 2).trans ?_
  refine (K4.final _ 0 c).trans ?_
  rw [W5_of m c main_arg1 (by decide), W4_of m c main_arg1 (by decide), W3_of m c main_arg1 (by decide), W2_of m c main_arg1 (by decide), W1_of m c main_arg1 (by decide),
    W5_of m c main_v3 (by decide), W4_of m c main_v3 (by decide)]

/-- Call 5's array: the product for dW2. -/
theorem W7_v7 (c : Dev nD) : W7 m c main_v7 = dw2 (W4 m c main_v4) (m ((c : Thread nD τ).loc main_arg2)) := by
  refine (Pipeline.afterRegion_arr (d5 m c) (W6 m c) launch5.win.arr_inj 2).trans ?_
  refine (K5.final _ 0 c).trans ?_
  rw [W6_of m c main_arg2 (by decide), W5_of m c main_arg2 (by decide), W4_of m c main_arg2 (by decide), W3_of m c main_arg2 (by decide), W2_of m c main_arg2 (by decide),
    W1_of m c main_arg2 (by decide), W6_of m c main_v4 (by decide), W5_of m c main_v4 (by decide)]

/-- The first result: the product for dX with W1 dequantised, its rows split into the batch axis and the rest. -/
theorem res_dx (c : Dev nD) : (W8 m c main_v8 : Vec Ideal S8x1024x7168 .bf16)
    = shapeCast S8x1024x7168 (dx (m ((c : Thread nD τ).loc main_arg0)) (w1 (m ((c : Thread nD τ).loc main_arg7)) (m ((c : Thread nD τ).loc main_arg8))))
        shapeCasts_S8192x7168_S8x1024x7168 := by
  unfold W8
  after_results_simp
  rw [W7_of m c main_v5 (by decide), W6_of m c main_v5 (by decide), W5_v5, W2_v2]
  rfl

/-- The second result: the product for dW1 of x dequantised. -/
theorem res_dw1 (c : Dev nD) : W8 m c main_v6
    = dw1 (x (shapeCast S8192x7168 (m ((c : Thread nD τ).loc main_arg3) : Vec Ideal S8x1024x7168 .fp8e4m3) shapeCasts_S8x1024x7168_S8192x7168)
        (m ((c : Thread nD τ).loc main_arg4))) (m ((c : Thread nD τ).loc main_arg1)) := by
  rw [W8_of m c main_v6 (by decide), W7_of m c main_v6 (by decide), W6_v6, W3_v3, W1_v0]

/-- The third result: the product for dW2 of a dequantised. -/
theorem res_dw2 (c : Dev nD) : W8 m c main_v7
    = dw2 (a (shapeCast S8192x5120 (m ((c : Thread nD τ).loc main_arg5) : Vec Ideal S8x1024x5120 .fp8e4m3) shapeCasts_S8x1024x5120_S8192x5120)
        (m ((c : Thread nD τ).loc main_arg6))) (m ((c : Thread nD τ).loc main_arg2)) := by
  rw [W8_of m c main_v7 (by decide), W7_v7, W4_v4, W1_v1]

end Cert.KernelIdeal.Val

end
-- ==== Proof.Val.Ref.lean ====
/- The reference's three results as the same functions of the whole arguments that the kernel's calls compute. -/
module

public import proofs.«01_k».proof.Proof.Gen.ReferenceIdeal.Value
public import proofs.«01_k».proof.Proof.Val.Spec
public import Idealize.ShloMosaic.Lib.Pointwise

@[expose] public section

set_option maxRecDepth 16384

noncomputable section

namespace Cert.KernelIdeal.Val.Ref

open Cert.KernelIdeal
open Cert.ReferenceIdeal.Gen (k0_pay1 k0_pay2 k0_pay3 k0_pay4 k0_pay5)
open Idealize.ShloMosaic

/-- The reference's second result: the product for dW1 of x dequantised, its codes given with their batch axis. -/
theorem dw1_eq (a1 : Vec Ideal S8192x10240 .bf16) (a3 : Vec Ideal S8x1024x7168 .fp8e4m3) (a4 : Vec Ideal S256x7168 .f32)
    (h : S8x1024x7168.ShapeCasts S8192x7168) :
    k0_pay1 (F := Ideal) (k0_pay5 a3 a4 a1) = dw1 (x (shapeCast S8192x7168 a3 h) a4) a1 := by
  funext i
  have h0 : (i 0).val < 7168 := (i 0).isLt
  have h1 : (i 1).val < 10240 := (i 1).isLt
  rw [show i = ix2 (n0 := 7168) (n1 := 10240) ⟨(i 0).val, h0⟩ ⟨(i 1).val, h1⟩ from by
    funext d
    match d with
    | ⟨0, _⟩ => rfl
    | ⟨1, _⟩ => rfl]
  pointwise [k0_pay1, k0_pay5]
  refine Finset.sum_congr rfl fun k _ => congrArg₂ (· * ·) (congrArg₂ (· * ·) ?_ rfl) rfl
  show _ = shapeCast S8192x7168 a3 h (ix2 (n1 := 7168) k (i 0))
  pointwise

/-- The reference's third result: the product for dW2 of a dequantised, its codes given with their batch axis. -/
theorem dw2_eq (a2 : Vec Ideal S8192x7168 .bf16) (a5 : Vec Ideal S8x1024x5120 .fp8e4m3) (a6 : Vec Ideal S256x5120 .f32)
    (h : S8x1024x5120.ShapeCasts S8192x5120) :
    k0_pay2 (F := Ideal) (k0_pay3 a5 a6) a2 = dw2 (a (shapeCast S8192x5120 a5 h) a6) a2 := by
  funext i
  have h0 : (i 0).val < 5120 := (i 0).isLt
  have h1 : (i 1).val < 7168 := (i 1).isLt
  rw [show i = ix2 (n0 := 5120) (n1 := 7168) ⟨(i 0).val, h0⟩ ⟨(i 1).val, h1⟩ from by
    funext d
    match d with
    | ⟨0, _⟩ => rfl
    | ⟨1, _⟩ => rfl]
  pointwise [k0_pay2, k0_pay3]
  refine Finset.sum_congr rfl fun k _ => congrArg₂ (· * ·) (congrArg₂ (· * ·) ?_ rfl) rfl
  show _ = shapeCast S8192x5120 a5 h (ix2 (n1 := 5120) k (i 0))
  pointwise

/-- The reference's first result: the product for dX with W1 dequantised, its rows split into the batch axis and the rest. -/
theorem dx_eq (a0 : Vec Ideal S8192x10240 .bf16) (a7 : Vec Ideal S7168x10240 .fp8e4m3) (a8 : Vec Ideal S7168x320 .f32)
    (h : S8192x7168.ShapeCasts S8x1024x7168) :
    k0_pay4 (F := Ideal) a7 a8 a0 = shapeCast S8x1024x7168 (dx a0 (w1 a7 a8)) h := by
  funext i
  have h0 : (i 0).val < 8 := (i 0).isLt
  have h1 : (i 1).val < 1024 := (i 1).isLt
  have h2 : (i 2).val < 7168 := (i 2).isLt
  rw [show i = ix3 (n0 := 8) (n1 := 1024) (n2 := 7168) ⟨(i 0).val, h0⟩ ⟨(i 1).val, h1⟩ ⟨(i 2).val, h2⟩ from by
    funext d
    match d with
    | ⟨0, _⟩ => rfl
    | ⟨1, _⟩ => rfl
    | ⟨2, _⟩ => rfl]
  pointwise [k0_pay4]
  rfl

end Cert.KernelIdeal.Val.Ref

end
-- ==== Proof.Quant.Spec.lean ====
/- The quantiser as plain formulas, bit for bit: the scale of a group of 32 values, the code of a value under it, the
   product of the two, and the six arrays that a whole array of values makes (groups of 32 along the rows, and groups of
   32 along the columns). The scale is spelt with the exponent field of a float as a number. The kernel masks that field
   in place and the reference shifts it out, and the lemmas here read either spelling as this one. -/
module

public import Idealize.ShloMosaic.Lib.Pointwise
public import Idealize.ShloMosaic.PureOps.BitExact.Laws

@[expose] public section

set_option maxRecDepth 16384

noncomputable section

namespace Cert.Quant

open Idealize.ShloMosaic

/-! ## One group of 32 values -/

/-- A bf16 is narrower than an f32. -/
theorem narrow16 : FTy.bits .bf16 < FTy.bits .f32 := by decide
/-- An fp8 is narrower than an f32. -/
theorem narrow8 : FTy.bits .fp8e4m3 < FTy.bits .f32 := by decide
/-- An fp8 is narrower than a bf16. -/
theorem narrow8_16 : FTy.bits .fp8e4m3 < FTy.bits .bf16 := by decide

/-- The largest magnitude of a group. -/
def amax (u : Fin 32 → Bits .bf16) : Bits .f32 :=
  (Finset.univ : Finset (Fin 32)).fold (FloatOps.maximumf (F := Bits) (φ := .f32)) (FloatOps.ofBits .f32 0xFF800000#32)
    fun k => FloatOps.absf (FloatOps.extf (F := Bits) .f32 narrow16 (u k))

/-- The word of the group's largest magnitude over 448, the largest fp8 value. -/
def word (u : Fin 32 → Bits .bf16) : BitVec 32 :=
  BitOps.toBits (F := Bits) (FloatOps.mulf (F := Bits) (amax u) (FloatOps.ofBits .f32 0x3B124925#32))

/-- The exponent field of an f32's word, as a number. -/
def field (w : BitVec 32) : BitVec 32 := (w >>> 23) &&& 255#32

/-- The scale for a word: the power of two one above the word's own, and 1 when the exponent field is zero. -/
def scaleOf (w : BitVec 32) : Bits .f32 :=
  FloatOps.ofBits (F := Bits) .f32 (if field w = 0#32 then 0x3F800000#32 else (field w + 1#32) <<< 23)

/-- The reciprocal of the scale for a word, a power of two as well. -/
def invOf (w : BitVec 32) : Bits .f32 :=
  FloatOps.ofBits (F := Bits) .f32 (if field w = 0#32 then 0x3F800000#32 else (253#32 - field w) <<< 23)

/-- The code of a value `x` of the group `u`: `x` over the scale, clipped to ±448 and rounded to fp8. -/
def code (u : Fin 32 → Bits .bf16) (x : Bits .bf16) : Bits .fp8e4m3 :=
  FloatOps.truncf (F := Bits) .fp8e4m3 narrow8 (FloatOps.minimumf (F := Bits) (FloatOps.ofBits .f32 0x43E00000#32)
    (FloatOps.maximumf (F := Bits) (FloatOps.ofBits .f32 0xC3E00000#32)
      (FloatOps.mulf (F := Bits) (FloatOps.extf (F := Bits) .f32 narrow16 x) (invOf (word u)))))

/-- The dequantised value: the code times the scale, in bf16. -/
def dq (u : Fin 32 → Bits .bf16) (x : Bits .bf16) : Bits .bf16 :=
  FloatOps.mulf (F := Bits) (FloatOps.extf (F := Bits) .bf16 narrow8_16 (code u x))
    (FloatOps.truncf (F := Bits) .bf16 narrow16 (scaleOf (word u)))

/-! ## The exponent field, masked in place and shifted out -/

/-- The masked word is the field at its place. -/
theorem mask_eq (w : BitVec 32) : w &&& 0x7F800000#32 = field w <<< 23 := by
  unfold field
  ext i hi
  simp only [BitVec.getElem_and, BitVec.getElem_shiftLeft, BitVec.getLsbD_and, BitVec.getLsbD_ushiftRight]
  interval_cases i <;> simp [BitVec.getLsbD_eq_getElem]

/-- The field is below 256. -/
theorem field_lt (w : BitVec 32) : (field w).toNat < 256 := by
  unfold field
  rw [BitVec.toNat_and]
  exact lt_of_le_of_lt Nat.and_le_right (by decide)

/-- What the masked word says of the field, and what adding and subtracting it make, checked for each field. -/
theorem small : ∀ n : Fin 256, let e := BitVec.ofNat 32 n.val
    (e <<< 23 = 0#32 ↔ e = 0#32)
    ∧ e <<< 23 + 0x800000#32 = (e + 1#32) <<< 23
    ∧ 2122317824#32 - e <<< 23 = (253#32 - e) <<< 23
    ∧ (e - 126#32 + 127#32) <<< 23 = (e + 1#32) <<< 23
    ∧ (127#32 - (e - 126#32)) <<< 23 = (253#32 - e) <<< 23 := by decide +kernel

/-- The same for a word's field. -/
theorem small_field (w : BitVec 32) :
    (field w <<< 23 = 0#32 ↔ field w = 0#32)
    ∧ field w <<< 23 + 0x800000#32 = (field w + 1#32) <<< 23
    ∧ 2122317824#32 - field w <<< 23 = (253#32 - field w) <<< 23
    ∧ (field w - 126#32 + 127#32) <<< 23 = (field w + 1#32) <<< 23
    ∧ (127#32 - (field w - 126#32)) <<< 23 = (253#32 - field w) <<< 23 := by
  have h := small ⟨(field w).toNat, field_lt w⟩
  simpa only [BitVec.ofNat_toNat, BitVec.setWidth_eq] using h

/-- Comparing a word with zero and selecting by the answer is a plain case split. -/
theorem select_zero {α : Type} (x : BitVec 32) (a b : α) :
    Scalar.select (IntOp.cmpi .eq x 0#32) a b = if x = 0#32 then a else b := by
  unfold Scalar.select IntOp.cmpi
  by_cases h : x = 0#32
  · rw [if_pos h, h]; rfl
  · rw [if_neg h, beq_false_of_ne h]; rfl

/-- The scale as the kernel spells it. -/
theorem scale_mask (w : BitVec 32) :
    Scalar.select (IntOp.cmpi .eq (IntOp.andi w 2139095040#32) 0#32) (FloatOps.ofBits (F := Bits) .f32 1065353216#32)
      (FloatOps.ofBits (F := Bits) .f32 (IntOp.addi (IntOp.andi w 2139095040#32) 8388608#32)) = scaleOf w := by
  obtain ⟨h0, h1, -, -, -⟩ := small_field w
  rw [select_zero]
  unfold scaleOf IntOp.andi IntOp.addi
  rw [mask_eq, h1]
  by_cases h : field w = 0#32
  · rw [if_pos (h0.2 h), if_pos h]
  · rw [if_neg (fun e => h (h0.1 e)), if_neg h]

/-- The reciprocal of the scale as the kernel spells it. -/
theorem inv_mask (w : BitVec 32) :
    Scalar.select (IntOp.cmpi .eq (IntOp.andi w 2139095040#32) 0#32) (FloatOps.ofBits (F := Bits) .f32 1065353216#32)
      (FloatOps.ofBits (F := Bits) .f32 (IntOp.subi 2122317824#32 (IntOp.andi w 2139095040#32))) = invOf w := by
  obtain ⟨h0, -, h1, -, -⟩ := small_field w
  rw [select_zero]
  unfold invOf IntOp.andi IntOp.subi
  rw [mask_eq, h1]
  by_cases h : field w = 0#32
  · rw [if_pos (h0.2 h), if_pos h]
  · rw [if_neg (fun e => h (h0.1 e)), if_neg h]

/-- The field as the reference shifts it out. -/
theorem shifted (w : BitVec 32) : IntOp.andi (IntOp.shrsi .vector w 23#32) 255#32 = field w := by
  unfold IntOp.andi IntOp.shrsi field
  rw [if_pos (by decide)]
  ext i hi
  simp only [BitVec.getElem_and, BitVec.sshiftRight_eq', BitVec.getElem_sshiftRight, BitVec.getElem_ushiftRight]
  interval_cases i <;> simp [BitVec.getLsbD_eq_getElem]

/-- The scale as the reference spells it. -/
theorem scale_shift (w : BitVec 32) :
    FloatOps.ofBits (F := Bits) .f32 (IntOp.shli .vector (IntOp.addi
      (Scalar.select (IntOp.cmpi .eq (IntOp.andi (IntOp.shrsi .vector w 23#32) 255#32) 0#32) 0#32
        (IntOp.subi (IntOp.andi (IntOp.shrsi .vector w 23#32) 255#32) 126#32)) 127#32) 23#32) = scaleOf w := by
  obtain ⟨-, -, -, h1, -⟩ := small_field w
  rw [shifted, select_zero]
  unfold scaleOf IntOp.shli IntOp.addi IntOp.subi
  rw [if_pos (by decide)]
  refine congrArg (FloatOps.ofBits (F := Bits) .f32) ?_
  by_cases h : field w = 0#32
  · rw [if_pos h, if_pos h]; rfl
  · rw [if_neg h, if_neg h]; exact h1

/-- The reciprocal of the scale as the reference spells it. -/
theorem inv_shift (w : BitVec 32) :
    FloatOps.ofBits (F := Bits) .f32 (IntOp.shli .vector (IntOp.subi 127#32
      (Scalar.select (IntOp.cmpi .eq (IntOp.andi (IntOp.shrsi .vector w 23#32) 255#32) 0#32) 0#32
        (IntOp.subi (IntOp.andi (IntOp.shrsi .vector w 23#32) 255#32) 126#32))) 23#32) = invOf w := by
  obtain ⟨-, -, -, -, h1⟩ := small_field w
  rw [shifted, select_zero]
  unfold invOf IntOp.shli IntOp.subi
  rw [if_pos (by decide)]
  refine congrArg (FloatOps.ofBits (F := Bits) .f32) ?_
  by_cases h : field w = 0#32
  · rw [if_pos h, if_pos h]; rfl
  · rw [if_neg h, if_neg h]; exact h1

/-! ## The six arrays -/

/-- A whole array of values. -/
abbrev Arr : Type := FVec Bits ⟨2, ![8192, 7168]⟩ .bf16

/-- Group `g` of row `a`: 32 neighbouring columns. -/
def rowGroup (X : Arr) (a : Fin 8192) (g : Fin 224) : Fin 32 → Bits .bf16 :=
  fun k => X (ix2 a ⟨g.val * 32 + k.val, by omega⟩)

/-- Group `g` of column `b`: 32 neighbouring rows. -/
def colGroup (X : Arr) (g : Fin 256) (b : Fin 7168) : Fin 32 → Bits .bf16 :=
  fun k => X (ix2 ⟨g.val * 32 + k.val, by omega⟩ b)

/-- The group that column `b` of a row lies in. -/
def rowOf (b : Fin 7168) : Fin 224 := ⟨b.val / 32, by omega⟩

/-- The group that row `a` of a column lies in. -/
def colOf (a : Fin 8192) : Fin 256 := ⟨a.val / 32, by omega⟩

/-- The codes, grouped along the rows. -/
def rowCodes (X : Arr) : FVec Bits ⟨2, ![8192, 7168]⟩ .fp8e4m3 := fun i => code (rowGroup X (i 0) (rowOf (i 1))) (X i)
/-- The scales, grouped along the rows. -/
def rowScales (X : Arr) : FVec Bits ⟨2, ![8192, 224]⟩ .f32 := fun i => scaleOf (word (rowGroup X (i 0) (i 1)))
/-- The dequantised values, grouped along the rows. -/
def rowDq (X : Arr) : FVec Bits ⟨2, ![8192, 7168]⟩ .bf16 := fun i => dq (rowGroup X (i 0) (rowOf (i 1))) (X i)
/-- The codes, grouped along the columns. -/
def colCodes (X : Arr) : FVec Bits ⟨2, ![8192, 7168]⟩ .fp8e4m3 := fun i => code (colGroup X (colOf (i 0)) (i 1)) (X i)
/-- The scales, grouped along the columns. -/
def colScales (X : Arr) : FVec Bits ⟨2, ![256, 7168]⟩ .f32 := fun i => scaleOf (word (colGroup X (i 0) (i 1)))
/-- The dequantised values, grouped along the columns. -/
def colDq (X : Arr) : FVec Bits ⟨2, ![8192, 7168]⟩ .bf16 := fun i => dq (colGroup X (colOf (i 0)) (i 1)) (X i)

end Cert.Quant

end
-- ==== Proof.Quant.Chunk.lean ====
/- The body of the kernel's quantiser, one chunk of 256 columns at a time: what a chunk of 256 rows and 256 columns of an
   array becomes is the same chunk of the formulas' arrays. Every chunk is the same function of its 256 columns, and the
   lemmas are stated for the first chunk's. -/
module

public import proofs.«01_k».proof.Proof.Gen.Quantiser.Value
public import proofs.«01_k».proof.Proof.Quant.Spec

@[expose] public section

set_option maxRecDepth 16384

noncomputable section

namespace Cert.Quant.Chunk

open Cert.Quantiser Cert.Quantiser.Gen
open Idealize.ShloMosaic Idealize.ShloMosaic.TcCoe

/-! ## A chunk read at an index, over its own values -/

/-- Group `g` of row `a` of a chunk. -/
def row (v : Vec Bits S256x256 .bf16) (a : Fin 256) (g : Fin 8) : Fin 32 → Bits .bf16 :=
  fun k => v (ix2 a ⟨g.val * 32 + k.val, by omega⟩)

/-- Group `g` of column `b` of a chunk. -/
def col (v : Vec Bits S256x256 .bf16) (g : Fin 8) (b : Fin 256) : Fin 32 → Bits .bf16 :=
  fun k => v (ix2 ⟨g.val * 32 + k.val, by omega⟩ b)

/-- The group of a chunk that a row or a column lies in. -/
def grp (a : Fin 256) : Fin 8 := ⟨a.val / 32, by omega⟩

/-- The chunk's row scales at an index, from the chunk's own group. -/
theorem rowScale_at (v : Vec Bits S256x256 .bf16) (g : Fin 8) (a : Fin 256) :
    k0_pay13 (F := Bits) (k0_pay4 v) (ix2 g a) = scaleOf (word (row v a g)) := by
  pointwise [k0_pay13, k0_pay12, k0_pay4]
  rw [scale_mask]
  rfl

/-- The chunk's row codes at an index, from the chunk's own group. -/
theorem rowCode_at (v : Vec Bits S256x256 .bf16) (a b : Fin 256) :
    k0_pay14 (F := Bits) (k0_pay4 v) (ix2 a b) = code (row v a (grp b)) (v (ix2 a b)) := by
  pointwise [k0_pay14, k0_pay12, k0_pay4]
  rw [inv_mask]
  rfl

/-- The chunk's dequantised rows at an index, from the chunk's own group. -/
theorem rowDq_at (v : Vec Bits S256x256 .bf16) (a b : Fin 256) :
    k0_pay15 (F := Bits) (k0_pay4 v) (ix2 a b) = dq (row v a (grp b)) (v (ix2 a b)) := by
  pointwise [k0_pay15]
  rw [rowCode_at, rowScale_at]
  rfl

/-- The chunk's column scales, before they are laid out as 8 rows. -/
theorem colScale3 (v : Vec Bits S256x256 .bf16) (g : Fin 8) (b : Fin 256) :
    k0_pay7 (F := Bits) v (ix3 g (0 : Fin 1) b) = scaleOf (word (col v g b)) := by
  pointwise [k0_pay7, k0_pay6, k0_pay5, k0_pay4]
  rw [scale_mask]
  rfl

/-- The chunk's column scales at an index, from the chunk's own group. -/
theorem colScale_at (v : Vec Bits S256x256 .bf16) (g : Fin 8) (b : Fin 256) :
    k0_pay10 (F := Bits) v (ix2 g b) = scaleOf (word (col v g b)) := by
  pointwise [k0_pay10]
  rw [colScale3]

/-- The chunk's column codes, before they are laid out as 256 rows. -/
theorem colCode3 (v : Vec Bits S256x256 .bf16) (g : Fin 8) (k : Fin 32) (b : Fin 256) :
    k0_pay8 (F := Bits) v (ix3 g k b) = code (col v g b) (v (ix2 ⟨g.val * 32 + k.val, by omega⟩ b)) := by
  pointwise [k0_pay8, k0_pay6, k0_pay5, k0_pay4]
  rw [inv_mask]
  rfl

/-- A row is its group's first row plus its place in the group. -/
theorem split (v : Vec Bits S256x256 .bf16) (a b : Fin 256) (h : a.val / 32 * 32 + a.val % 32 < 256) :
    v (ix2 (⟨a.val / 32 * 32 + a.val % 32, h⟩ : Fin 256) b) = v (ix2 a b) :=
  congrArg v (congrArg (fun r : Fin 256 => ix2 r b) (Fin.ext (by show a.val / 32 * 32 + a.val % 32 = a.val; omega)))

/-- The chunk's column codes at an index, from the chunk's own group. -/
theorem colCode_at (v : Vec Bits S256x256 .bf16) (a b : Fin 256) :
    k0_pay9 (F := Bits) v (ix2 a b) = code (col v (grp a) b) (v (ix2 a b)) := by
  pointwise [k0_pay9]
  rw [colCode3, split v]
  rfl

/-- The chunk's dequantised columns at an index, from the chunk's own group. -/
theorem colDq_at (v : Vec Bits S256x256 .bf16) (a b : Fin 256) :
    k0_pay11 (F := Bits) v (ix2 a b) = dq (col v (grp a) b) (v (ix2 a b)) := by
  pointwise [k0_pay11]
  rw [colCode3, colScale3, split v]
  rfl

/-! ## A chunk of an array -/

/-- The chunk of `X` of the 256 rows of block `t` and the 256 columns of chunk `o`. -/
def Of (X : Arr) (t : Fin 32) (o : Fin 28) (v : Vec Bits S256x256 .bf16) : Prop :=
  ∀ a b : Fin 256, v (ix2 a b) = X (ix2 ⟨t.val * 256 + a.val, by omega⟩ ⟨256 * o.val + b.val, by omega⟩)

/-- The group of a column of the array, from its chunk. -/
theorem rowOf_eq (o : Fin 28) (b : Fin 256) : (⟨o.val * 8 + (grp b).val, by omega⟩ : Fin 224) = rowOf ⟨256 * o.val + b.val, by omega⟩ :=
  Fin.ext (by show o.val * 8 + b.val / 32 = (256 * o.val + b.val) / 32; omega)

/-- The group of a row of the array, from its block. -/
theorem colOf_eq (t : Fin 32) (a : Fin 256) : (⟨t.val * 8 + (grp a).val, by omega⟩ : Fin 256) = colOf ⟨t.val * 256 + a.val, by omega⟩ :=
  Fin.ext (by show t.val * 8 + a.val / 32 = (t.val * 256 + a.val) / 32; omega)

variable {X : Arr} {t : Fin 32} {o : Fin 28} {v : Vec Bits S256x256 .bf16} (h : Of X t o v)
include h

/-- A row group of the chunk is a row group of the array. -/
theorem row_eq (a : Fin 256) (g : Fin 8) :
    row v a g = rowGroup X ⟨t.val * 256 + a.val, by omega⟩ ⟨o.val * 8 + g.val, by omega⟩ := by
  funext k
  refine (h _ _).trans (congrArg X (congrArg (ix2 _) (Fin.ext ?_)))
  show 256 * o.val + (g.val * 32 + k.val) = (o.val * 8 + g.val) * 32 + k.val
  omega

/-- A column group of the chunk is a column group of the array. -/
theorem col_eq (g : Fin 8) (b : Fin 256) :
    col v g b = colGroup X ⟨t.val * 8 + g.val, by omega⟩ ⟨256 * o.val + b.val, by omega⟩ := by
  funext k
  refine (h _ _).trans (congrArg X (congrArg (fun r => ix2 r _) (Fin.ext ?_)))
  show t.val * 256 + (g.val * 32 + k.val) = (t.val * 8 + g.val) * 32 + k.val
  omega

/-- The chunk's row scales are the array's, transposed. -/
theorem rowScale (g : Fin 8) (a : Fin 256) : k0_pay13 (F := Bits) (k0_pay4 v) (ix2 g a)
    = rowScales X (ix2 ⟨t.val * 256 + a.val, by omega⟩ ⟨o.val * 8 + g.val, by omega⟩) := by
  rw [rowScale_at, row_eq h]
  rfl

/-- The chunk's row codes are the array's. -/
theorem rowCode (a b : Fin 256) : k0_pay14 (F := Bits) (k0_pay4 v) (ix2 a b)
    = rowCodes X (ix2 ⟨t.val * 256 + a.val, by omega⟩ ⟨256 * o.val + b.val, by omega⟩) := by
  rw [rowCode_at, row_eq h, rowOf_eq, h]
  rfl

/-- The chunk's dequantised rows are the array's. -/
theorem rowDqs (a b : Fin 256) : k0_pay15 (F := Bits) (k0_pay4 v) (ix2 a b)
    = rowDq X (ix2 ⟨t.val * 256 + a.val, by omega⟩ ⟨256 * o.val + b.val, by omega⟩) := by
  rw [rowDq_at, row_eq h, rowOf_eq, h]
  rfl

/-- The chunk's column scales are the array's. -/
theorem colScale (g : Fin 8) (b : Fin 256) : k0_pay10 (F := Bits) v (ix2 g b)
    = colScales X (ix2 ⟨t.val * 8 + g.val, by omega⟩ ⟨256 * o.val + b.val, by omega⟩) := by
  rw [colScale_at, col_eq h]
  rfl

/-- The chunk's column codes are the array's. -/
theorem colCode (a b : Fin 256) : k0_pay9 (F := Bits) v (ix2 a b)
    = colCodes X (ix2 ⟨t.val * 256 + a.val, by omega⟩ ⟨256 * o.val + b.val, by omega⟩) := by
  rw [colCode_at, col_eq h, colOf_eq, h]
  rfl

/-- The chunk's dequantised columns are the array's. -/
theorem colDqs (a b : Fin 256) : k0_pay11 (F := Bits) v (ix2 a b)
    = colDq X (ix2 ⟨t.val * 256 + a.val, by omega⟩ ⟨256 * o.val + b.val, by omega⟩) := by
  rw [colDq_at, col_eq h, colOf_eq, h]
  rfl

end Cert.Quant.Chunk

end
-- ==== Proof.Quant.Block.lean ====
/- The kernel's quantiser read as a value: its six result arrays end at the formulas of the array it is given. Each of the
   32 grid points quantises 256 rows, in 28 chunks of 256 columns. The body's 28 stores into a result are one family of
   pieces, the same function of the chunk each, and the row scales are one store of the 28 chunks' scales set one above
   the other and turned over. -/
module

public import proofs.«01_k».proof.Proof.Quant.Chunk
public import Idealize.ShloMosaic.Lib.Pipeline.Value
public import Idealize.ShloMosaic.Lib.Pipeline.ReadBack

@[expose] public section

set_option maxRecDepth 16384

noncomputable section

namespace Cert.Quant.Block

open Cert.Quantiser Cert.Quantiser.Gen
open Idealize.ShloMosaic Idealize.ShloMosaic.TcCoe
open Idealize.SL Idealize.SL.RA Idealize.SL.Sem
open Idealize.ShloMosaic.Pipeline (Dat)

/-! ## The stores as one family over the chunks -/

/-- Chunk `o` of 256 columns lies in a block of `R` rows. -/
theorem inb (R : ℕ) (o : Fin 28) : ∀ a, (![0, 256 * o.val] : Fin 2 → ℕ) a + (⟨2, ![R, 256]⟩ : Shape).size a ≤ (⟨2, ![R, 7168]⟩ : Shape).size a := fun a => by
  match a with
  | ⟨0, _⟩ => show 0 + R ≤ R; omega
  | ⟨1, _⟩ => show 256 * o.val + 256 ≤ 7168; omega

/-- Chunk `o` of a block of `R` rows. -/
abbrev rect (R : ℕ) (o : Fin 28) : Rect ⟨2, ![R, 7168]⟩ :=
  Rect.unit (s := ⟨2, ![R, 7168]⟩) ![0, 256 * o.val] (⟨2, ![R, 256]⟩ : Shape).size (inb R o)

/-- A family of 28 chunks, as the pieces of a block: the last one first. -/
abbrev family (R : ℕ) {e : EltTy} (f : Fin 28 → Vec Bits ⟨2, ![R, 256]⟩ e) : List (View.Piece (Elt Bits) ⟨2, ![R, 7168]⟩ e) :=
  List.ofFn fun o : Fin 28 => ⟨rect R o.rev, f o.rev⟩

/-- The stores of the row codes are one family over the chunks. -/
theorem out1_eq (x0 : Vec Bits S256x7168 .bf16) : out0_1 (F := Bits) x0 = View.canon (family 256 fun o =>
    k0_pay14 (k0_pay4 (View.ld x0 (rect 256 o)))) := rfl

/-- The stores of the column codes are one family over the chunks. -/
theorem out3_eq (x0 : Vec Bits S256x7168 .bf16) : out0_3 (F := Bits) x0 = View.canon (family 256 fun o =>
    k0_pay9 (View.ld x0 (rect 256 o))) := rfl

/-- The stores of the column scales are one family over the chunks. -/
theorem out4_eq (x0 : Vec Bits S256x7168 .bf16) : out0_4 (F := Bits) x0 = View.canon (family 8 fun o =>
    k0_pay10 (View.ld x0 (rect 256 o))) := rfl

/-- The stores of the dequantised rows are one family over the chunks. -/
theorem out5_eq (x0 : Vec Bits S256x7168 .bf16) : out0_5 (F := Bits) x0 = View.canon (family 256 fun o =>
    k0_pay15 (k0_pay4 (View.ld x0 (rect 256 o)))) := rfl

/-- The stores of the dequantised columns are one family over the chunks. -/
theorem out6_eq (x0 : Vec Bits S256x7168 .bf16) : out0_6 (F := Bits) x0 = View.canon (family 256 fun o =>
    k0_pay11 (View.ld x0 (rect 256 o))) := rfl

/-- The 28 chunks' row scales, set one above the other, are 224 rows. -/
theorem stacked (f : Fin 28 → Vec Bits S8x256 .f32) :
    Shape.Concatenates ((List.ofFn fun o : Fin 28 => (⟨S8x256, f o⟩ : (s : Shape) × (s.Idx → Elt Bits .f32))).map (·.1)) S224x256 0 :=
  concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S224x256_d0

/-- The offsets of a whole load or store are zero. -/
theorem hz : (![0, 0] : Fin 2 → ℕ) = fun _ => 0 := funext fun a => by fin_cases a <;> rfl

/-- The one store of the row scales: the chunks' scales, one above the other, transposed. -/
theorem out2_eq (x0 : Vec Bits S256x7168 .bf16) : out0_2 (F := Bits) x0 = k0_pay3 (F := Bits) (concatenate S224x256 0
    (List.ofFn fun o : Fin 28 => (⟨S8x256, k0_pay13 (k0_pay4 (View.ld x0 (rect 256 o)))⟩ : (s : Shape) × (s.Idx → Elt Bits .f32)))
    (stacked _)) := by
  unfold out0_2
  rw [View.canon_unit_zero hz]
  rfl

/-! ## A family of chunks that agree with one array -/

/-- Chunks that all agree with one array of `B` blocks of `R` rows make block `t` of it. -/
theorem canon_at {R B N : ℕ} (hN : N = B * R) {t : Fin B} {e : EltTy} (f : Fin 28 → Vec Bits ⟨2, ![R, 256]⟩ e)
    (G : (⟨2, ![N, 7168]⟩ : Shape).Idx → Elt Bits e) (hb : ∀ a : Fin R, t.val * R + a.val < N)
    (hf : ∀ (o : Fin 28) (a : Fin R) (b : Fin 256), f o (ix2 a b) = G (ix2 ⟨t.val * R + a.val, hb a⟩ ⟨256 * o.val + b.val, by omega⟩))
    (y : (⟨2, ![R, 7168]⟩ : Shape).Idx) :
    View.canon (family R f) y = G (ix2 (n0 := N) (n1 := 7168) ⟨t.val * R + (y 0).val, hb (y 0)⟩ ⟨(y 1).val, (y 1).isLt⟩) := by
  have h1 : (y 1).val < 7168 := (y 1).isLt
  refine View.canon_apply_of_pieces (fun y : (⟨2, ![R, 7168]⟩ : Shape).Idx => G (ix2 (n0 := N) (n1 := 7168)
    ⟨t.val * R + (y 0).val, hb (y 0)⟩ ⟨(y 1).val, (y 1).isLt⟩)) _ ?_ y ?_
  · intro p hp z
    obtain ⟨o, rfl⟩ := List.mem_ofFn.1 hp
    have e : z = ix2 (n0 := R) (n1 := 256) ⟨(z 0).val, (z 0).isLt⟩ ⟨(z 1).val, (z 1).isLt⟩ := by
      funext d
      match d with
      | ⟨0, _⟩ => rfl
      | ⟨1, _⟩ => rfl
    refine (congrArg (f o.rev) e).trans ((hf o.rev _ _).trans (congrArg G ?_))
    funext d
    apply Fin.ext
    match d with
    | ⟨0, _⟩ => show t.val * R + (z 0).val = t.val * R + (0 + 1 * (z 0).val); omega
    | ⟨1, _⟩ => show 256 * o.rev.val + (z 1).val = 256 * o.rev.val + 1 * (z 1).val; omega
  · refine ⟨⟨rect R ⟨(y 1).val / 256, by omega⟩, f ⟨(y 1).val / 256, by omega⟩⟩,
      List.mem_ofFn.2 ⟨Fin.rev ⟨(y 1).val / 256, by omega⟩, by rw [Fin.rev_rev]⟩, ?_⟩
    rw [Rect.mem_set_unit]
    intro d
    match d with
    | ⟨0, _⟩ => show 0 ≤ (y 0).val ∧ (y 0).val < 0 + R; have : (y 0).val < R := (y 0).isLt; omega
    | ⟨1, _⟩ => show 256 * ((y 1).val / 256) ≤ (y 1).val ∧ (y 1).val < 256 * ((y 1).val / 256) + 256; omega

/-! ## A block's result is the block of the formula's array -/

/-- `x0` is block `t` of 256 rows of the array `X`. -/
def Rows (X : Arr) (t : Fin 32) (x0 : Vec Bits S256x7168 .bf16) : Prop :=
  ∀ (a : Fin 256) (b : Fin 7168), x0 (ix2 a b) = X (ix2 ⟨t.val * 256 + a.val, by omega⟩ b)

variable {X : Arr} {t : Fin 32} {x0 : Vec Bits S256x7168 .bf16} (h : Rows X t x0)
include h

/-- The chunk a load reads is the chunk of the array. -/
theorem of_ld (o : Fin 28) : Chunk.Of X t o (View.ld x0 (rect 256 o)) := fun a b => by
  refine Eq.trans (congrArg x0 ?_) (h a ⟨256 * o.val + b.val, by omega⟩)
  funext d
  apply Fin.ext
  match d with
  | ⟨0, _⟩ => show 0 + 1 * a.val = a.val; omega
  | ⟨1, _⟩ => show 256 * o.val + 1 * b.val = 256 * o.val + b.val; omega

/-- The block's row codes are the array's. -/
theorem out1_at (y : S256x7168.Idx) (hb : ∀ a : Fin 256, t.val * 256 + a.val < 8192) : out0_1 (F := Bits) x0 y
    = rowCodes X (ix2 (n0 := 8192) (n1 := 7168) ⟨t.val * 256 + (y 0).val, hb (y 0)⟩ ⟨(y 1).val, (y 1).isLt⟩) := by
  rw [out1_eq]
  exact canon_at (B := 32) rfl _ _ hb (fun o a b => Chunk.rowCode (of_ld h o) a b) y

/-- The block's column codes are the array's. -/
theorem out3_at (y : S256x7168.Idx) (hb : ∀ a : Fin 256, t.val * 256 + a.val < 8192) : out0_3 (F := Bits) x0 y
    = colCodes X (ix2 (n0 := 8192) (n1 := 7168) ⟨t.val * 256 + (y 0).val, hb (y 0)⟩ ⟨(y 1).val, (y 1).isLt⟩) := by
  rw [out3_eq]
  exact canon_at (B := 32) rfl _ _ hb (fun o a b => Chunk.colCode (of_ld h o) a b) y

/-- The block's column scales are the array's. -/
theorem out4_at (y : S8x7168.Idx) (hb : ∀ a : Fin 8, t.val * 8 + a.val < 256) : out0_4 (F := Bits) x0 y
    = colScales X (ix2 (n0 := 256) (n1 := 7168) ⟨t.val * 8 + (y 0).val, hb (y 0)⟩ ⟨(y 1).val, (y 1).isLt⟩) := by
  rw [out4_eq]
  exact canon_at (B := 32) rfl _ _ hb (fun o a b => Chunk.colScale (of_ld h o) a b) y

/-- The block's dequantised rows are the array's. -/
theorem out5_at (y : S256x7168.Idx) (hb : ∀ a : Fin 256, t.val * 256 + a.val < 8192) : out0_5 (F := Bits) x0 y
    = rowDq X (ix2 (n0 := 8192) (n1 := 7168) ⟨t.val * 256 + (y 0).val, hb (y 0)⟩ ⟨(y 1).val, (y 1).isLt⟩) := by
  rw [out5_eq]
  exact canon_at (B := 32) rfl _ _ hb (fun o a b => Chunk.rowDqs (of_ld h o) a b) y

/-- The block's dequantised columns are the array's. -/
theorem out6_at (y : S256x7168.Idx) (hb : ∀ a : Fin 256, t.val * 256 + a.val < 8192) : out0_6 (F := Bits) x0 y
    = colDq X (ix2 (n0 := 8192) (n1 := 7168) ⟨t.val * 256 + (y 0).val, hb (y 0)⟩ ⟨(y 1).val, (y 1).isLt⟩) := by
  rw [out6_eq]
  exact canon_at (B := 32) rfl _ _ hb (fun o a b => Chunk.colDqs (of_ld h o) a b) y

/-- The block's row scales are the array's. -/
theorem out2_at (y : S256x224.Idx) (hb : ∀ a : Fin 256, t.val * 256 + a.val < 8192) : out0_2 (F := Bits) x0 y
    = rowScales X (ix2 (n0 := 8192) (n1 := 224) ⟨t.val * 256 + (y 0).val, hb (y 0)⟩ ⟨(y 1).val, (y 1).isLt⟩) := by
  have h0 : (y 0).val < 256 := (y 0).isLt
  have h1 : (y 1).val < 224 := (y 1).isLt
  rw [out2_eq]
  have e : y = ix2 (n0 := 256) (n1 := 224) ⟨(y 0).val, h0⟩ ⟨(y 1).val, h1⟩ := by
    funext d
    match d with
    | ⟨0, _⟩ => rfl
    | ⟨1, _⟩ => rfl
  have ht : ∀ c : Vec Bits S224x256 .f32, k0_pay3 (F := Bits) c (ix2 (n0 := 256) (n1 := 224) ⟨(y 0).val, h0⟩ ⟨(y 1).val, h1⟩)
      = c (ix2 (n0 := 224) (n1 := 256) ⟨(y 1).val, h1⟩ ⟨(y 0).val, h0⟩) := fun c => by
    pointwise [k0_pay3]
  refine (congrArg _ e).trans ((ht _).trans ?_)
  rw [concatenate_ofFn_apply (s₁ := S8x256) (0 : Fin S224x256.rank) (fun o : Fin 28 => k0_pay13 (F := Bits) (k0_pay4 (View.ld x0 (rect 256 o)))) _ rfl 8 rfl
    _ ⟨(y 1).val / 8, by omega⟩ rfl (ix2 (n0 := 8) (n1 := 256) ⟨(y 1).val % 8, by omega⟩ ⟨(y 0).val, h0⟩) rfl (fun b hb => by
      match b with
      | ⟨0, _⟩ => exact absurd rfl hb
      | ⟨1, _⟩ => rfl)]
  refine (Chunk.rowScale (of_ld h _) _ _).trans (congrArg (rowScales X) (congrArg (ix2 _) (Fin.ext ?_)))
  show (y 1).val / 8 * 8 + (y 1).val % 8 = (y 1).val
  omega

end Cert.Quant.Block

end
-- ==== Proof.Quant.Value.lean ====
/- The kernel's quantiser after its run: each of the six result arrays is the formula of the array it is given. Grid point
   `t` writes block `t` of each, and the 32 blocks tile the arrays. -/
module

public import proofs.«01_k».proof.Proof.Quant.Block

@[expose] public section

set_option maxRecDepth 16384

noncomputable section

namespace Cert.Quant.Val

open Cert.Quantiser Cert.Quantiser.Gen Cert.Quantiser.Value
open Idealize.ShloMosaic Idealize.ShloMosaic.TcCoe
open Idealize.SL Idealize.SL.RA Idealize.SL.Sem
open Idealize.ShloMosaic.Pipeline (Dat)

variable (m : (ℓ : Loc nD τ sig) → Buf (Elt Bits) ℓ)

/-- Every window's block at point `t` is the `t`-th along the rows. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Every point writes every result's block back. -/
theorem flush : ∀ t : Fin cfg0.N, (cfg0.win 1).flush t = true ∧ (cfg0.win 2).flush t = true ∧ (cfg0.win 3).flush t = true
    ∧ (cfg0.win 4).flush t = true ∧ (cfg0.win 5).flush t = true ∧ (cfg0.win 6).flush t = true :=
  (by decide +kernel : ∀ t : Fin grid0.N, _)

/-- A grid point as a number below 32. -/
theorem lt (t : Fin cfg0.N) : t.val < 32 := lt_of_lt_of_eq t.isLt N_0

/-- The input's block at point `t` is the rows `256 t …` of the array. -/
theorem block (c : Dev nD) (t : Fin cfg0.N) : Block.Rows (m ((c : Thread nD τ).loc main_arg0)) ⟨t.val, lt t⟩ (iblk m c 0 t) := fun a b => by
  obtain ⟨⟨a0, a1⟩, -⟩ := idx t
  unfold iblk
  show V m c main_arg0 _ = _
  rw [V_main_arg0]
  refine congrArg (m ((c : Thread nD τ).loc main_arg0) : Arr) ?_
  funext d
  apply Fin.ext
  match d with
  | ⟨0, _⟩ => show win0_0.index t (0 : Fin 2) * 256 + 1 * a.val = t.val * 256 + a.val; rw [a0]; omega
  | ⟨1, _⟩ => show win0_0.index t (1 : Fin 2) * 7168 + 1 * b.val = b.val; rw [a1]; omega

/-- An index of an array is in the block along the rows that its row over the block's height names. -/
theorem mem {N C R : ℕ} (hR : 0 < R) (j : Fin 2 → ℕ) (i : (⟨2, ![N, C]⟩ : Shape).Idx) (h0 : j 0 = (i 0).val / R) (h1 : j 1 = 0) :
    ∀ d : Fin 2, j d * (⟨2, ![R, C]⟩ : Shape).size d ≤ (i d).val ∧ (i d).val < j d * (⟨2, ![R, C]⟩ : Shape).size d + (⟨2, ![R, C]⟩ : Shape).size d := fun d => by
  have hC : (i 1).val < C := (i 1).isLt
  match d with
  | ⟨0, _⟩ =>
    show j 0 * R ≤ (i 0).val ∧ (i 0).val < j 0 * R + R
    rw [h0]
    have hd := Nat.div_add_mod' (i 0).val R
    have hm := Nat.mod_lt (i 0).val hR
    omega
  | ⟨1, _⟩ => show j 1 * C ≤ (i 1).val ∧ (i 1).val < j 1 * C + C; rw [h1]; omega

/-- A block's index, at its place in the array. -/
theorem place {N C R : ℕ} (t : ℕ) (j : Fin 2 → ℕ) (h0 : j 0 = t) (h1 : j 1 = 0) (y0 y1 : ℕ) (b0 : t * R + y0 < N) (b1 : y1 < C)
    (e : (⟨2, ![N, C]⟩ : Shape).Idx) (e0 : (e 0).val = j 0 * R + 1 * y0) (e1 : (e 1).val = j 1 * C + 1 * y1) :
    ix2 (n0 := N) (n1 := C) ⟨t * R + y0, b0⟩ ⟨y1, b1⟩ = e := by
  funext d
  apply Fin.ext
  match d with
  | ⟨0, _⟩ => show t * R + y0 = (e 0).val; rw [e0, h0]; omega
  | ⟨1, _⟩ => show y1 = (e 1).val; rw [e1, h1]; omega

/-- The codes along the rows. -/
theorem final1 (c : Dev nD) : (dats m 0 c).arrAt 1 cfg0.N = rowCodes (m ((c : Thread nD τ).loc main_arg0)) :=
  (dats m 0 c).arrAt_eq_of_cover 1 _ (fun t _ => by
    obtain ⟨-, ⟨c0, c1⟩, -⟩ := idx t
    have ht := lt t
    rw [flushed1]
    funext y
    exact (Block.out1_at (block m c t) ((cfg0.win 1).xinj (grid0.coords t) y) (fun a => by dsimp only; omega)).trans
      (congrArg (rowCodes _) (place t.val (win0_1.index t) c0 c1 _ _ _ _ (((cfg0.win 1).blk t).view.emb y) rfl rfl))) fun (i : S8192x7168.Idx) => by
    have h0 : (i 0).val < 8192 := (i 0).isLt
    have hN : cfg0.N = 32 := N_0
    have hlt : (i 0).val / 256 < cfg0.N := by omega
    obtain ⟨-, ⟨c0, c1⟩, -⟩ := idx ⟨(i 0).val / 256, hlt⟩
    refine ⟨⟨(i 0).val / 256, hlt⟩, (flush _).1, ?_⟩
    show i ∈ ((View.whole main_v0_0).slice (win0_1.rect (⟨(i 0).val / 256, hlt⟩ : Fin cfg0.N))).set
    rw [View.set_slice_whole, Rect.mem_set_unit]
    exact mem (R := 256) (by decide) _ i c0 c1

/-- The scales along the rows. -/
theorem final2 (c : Dev nD) : (dats m 0 c).arrAt 2 cfg0.N = rowScales (m ((c : Thread nD τ).loc main_arg0)) :=
  (dats m 0 c).arrAt_eq_of_cover 2 _ (fun t _ => by
    obtain ⟨-, -, ⟨c0, c1⟩, -⟩ := idx t
    have ht := lt t
    rw [flushed2]
    funext y
    exact (Block.out2_at (block m c t) ((cfg0.win 2).xinj (grid0.coords t) y) (fun a => by dsimp only; omega)).trans
      (congrArg (rowScales _) (place t.val (win0_2.index t) c0 c1 _ _ _ _ (((cfg0.win 2).blk t).view.emb y) rfl rfl))) fun (i : S8192x224.Idx) => by
    have h0 : (i 0).val < 8192 := (i 0).isLt
    have hN : cfg0.N = 32 := N_0
    have hlt : (i 0).val / 256 < cfg0.N := by omega
    obtain ⟨-, -, ⟨c0, c1⟩, -⟩ := idx ⟨(i 0).val / 256, hlt⟩
    refine ⟨⟨(i 0).val / 256, hlt⟩, (flush _).2.1, ?_⟩
    show i ∈ ((View.whole main_v0_1).slice (win0_2.rect (⟨(i 0).val / 256, hlt⟩ : Fin cfg0.N))).set
    rw [View.set_slice_whole, Rect.mem_set_unit]
    exact mem (R := 256) (by decide) _ i c0 c1

/-- The codes along the columns. -/
theorem final3 (c : Dev nD) : (dats m 0 c).arrAt 3 cfg0.N = colCodes (m ((c : Thread nD τ).loc main_arg0)) :=
  (dats m 0 c).arrAt_eq_of_cover 3 _ (fun t _ => by
    obtain ⟨-, -, -, ⟨c0, c1⟩, -⟩ := idx t
    have ht := lt t
    rw [flushed3]
    funext y
    exact (Block.out3_at (block m c t) ((cfg0.win 3).xinj (grid0.coords t) y) (fun a => by dsimp only; omega)).trans
      (congrArg (colCodes _) (place t.val (win0_3.index t) c0 c1 _ _ _ _ (((cfg0.win 3).blk t).view.emb y) rfl rfl))) fun (i : S8192x7168.Idx) => by
    have h0 : (i 0).val < 8192 := (i 0).isLt
    have hN : cfg0.N = 32 := N_0
    have hlt : (i 0).val / 256 < cfg0.N := by omega
    obtain ⟨-, -, -, ⟨c0, c1⟩, -⟩ := idx ⟨(i 0).val / 256, hlt⟩
    refine ⟨⟨(i 0).val / 256, hlt⟩, (flush _).2.2.1, ?_⟩
    show i ∈ ((View.whole main_v0_2).slice (win0_3.rect (⟨(i 0).val / 256, hlt⟩ : Fin cfg0.N))).set
    rw [View.set_slice_whole, Rect.mem_set_unit]
    exact mem (R := 256) (by decide) _ i c0 c1

/-- The scales along the columns. -/
theorem final4 (c : Dev nD) : (dats m 0 c).arrAt 4 cfg0.N = colScales (m ((c : Thread nD τ).loc main_arg0)) :=
  (dats m 0 c).arrAt_eq_of_cover 4 _ (fun t _ => by
    obtain ⟨-, -, -, -, ⟨c0, c1⟩, -⟩ := idx t
    have ht := lt t
    rw [flushed4]
    funext y
    exact (Block.out4_at (block m c t) ((cfg0.win 4).xinj (grid0.coords t) y) (fun a => by dsimp only; omega)).trans
      (congrArg (colScales _) (place t.val (win0_4.index t) c0 c1 _ _ _ _ (((cfg0.win 4).blk t).view.emb y) rfl rfl))) fun (i : S256x7168.Idx) => by
    have h0 : (i 0).val < 256 := (i 0).isLt
    have hN : cfg0.N = 32 := N_0
    have hlt : (i 0).val / 8 < cfg0.N := by omega
    obtain ⟨-, -, -, -, ⟨c0, c1⟩, -⟩ := idx ⟨(i 0).val / 8, hlt⟩
    refine ⟨⟨(i 0).val / 8, hlt⟩, (flush _).2.2.2.1, ?_⟩
    show i ∈ ((View.whole main_v0_3).slice (win0_4.rect (⟨(i 0).val / 8, hlt⟩ : Fin cfg0.N))).set
    rw [View.set_slice_whole, Rect.mem_set_unit]
    exact mem (R := 8) (by decide) _ i c0 c1

/-- The dequantised values along the rows. -/
theorem final5 (c : Dev nD) : (dats m 0 c).arrAt 5 cfg0.N = rowDq (m ((c : Thread nD τ).loc main_arg0)) :=
  (dats m 0 c).arrAt_eq_of_cover 5 _ (fun t _ => by
    obtain ⟨-, -, -, -, -, ⟨c0, c1⟩, -⟩ := idx t
    have ht := lt t
    rw [flushed5]
    funext y
    exact (Block.out5_at (block m c t) ((cfg0.win 5).xinj (grid0.coords t) y) (fun a => by dsimp only; omega)).trans
      (congrArg (rowDq _) (place t.val (win0_5.index t) c0 c1 _ _ _ _ (((cfg0.win 5).blk t).view.emb y) rfl rfl))) fun (i : S8192x7168.Idx) => by
    have h0 : (i 0).val < 8192 := (i 0).isLt
    have hN : cfg0.N = 32 := N_0
    have hlt : (i 0).val / 256 < cfg0.N := by omega
    obtain ⟨-, -, -, -, -, ⟨c0, c1⟩, -⟩ := idx ⟨(i 0).val / 256, hlt⟩
    refine ⟨⟨(i 0).val / 256, hlt⟩, (flush _).2.2.2.2.1, ?_⟩
    show i ∈ ((View.whole main_v0_4).slice (win0_5.rect (⟨(i 0).val / 256, hlt⟩ : Fin cfg0.N))).set
    rw [View.set_slice_whole, Rect.mem_set_unit]
    exact mem (R := 256) (by decide) _ i c0 c1

/-- The dequantised values along the columns. -/
theorem final6 (c : Dev nD) : (dats m 0 c).arrAt 6 cfg0.N = colDq (m ((c : Thread nD τ).loc main_arg0)) :=
  (dats m 0 c).arrAt_eq_of_cover 6 _ (fun t _ => by
    obtain ⟨-, -, -, -, -, -, ⟨c0, c1⟩⟩ := idx t
    have ht := lt t
    rw [flushed6]
    funext y
    exact (Block.out6_at (block m c t) ((cfg0.win 6).xinj (grid0.coords t) y) (fun a => by dsimp only; omega)).trans
      (congrArg (colDq _) (place t.val (win0_6.index t) c0 c1 _ _ _ _ (((cfg0.win 6).blk t).view.emb y) rfl rfl))) fun (i : S8192x7168.Idx) => by
    have h0 : (i 0).val < 8192 := (i 0).isLt
    have hN : cfg0.N = 32 := N_0
    have hlt : (i 0).val / 256 < cfg0.N := by omega
    obtain ⟨-, -, -, -, -, -, ⟨c0, c1⟩⟩ := idx ⟨(i 0).val / 256, hlt⟩
    refine ⟨⟨(i 0).val / 256, hlt⟩, (flush _).2.2.2.2.2, ?_⟩
    show i ∈ ((View.whole main_v0_5).slice (win0_6.rect (⟨(i 0).val / 256, hlt⟩ : Fin cfg0.N))).set
    rw [View.set_slice_whole, Rect.mem_set_unit]
    exact mem (R := 256) (by decide) _ i c0 c1

end Cert.Quant.Val

end
-- ==== Proof.Quant.Ref.lean ====
/- The reference quantiser read as a value: each of its six result arrays is the formula of it. -/
module

public import proofs.«01_k».proof.Proof.Gen.QuantiserReference.Value
public import proofs.«01_k».proof.Proof.Quant.Spec

@[expose] public section

set_option maxRecDepth 16384

noncomputable section

namespace Cert.Quant.Ref

open Cert.QuantiserReference Cert.QuantiserReference.Gen Cert.QuantiserReference.Value
open Idealize.ShloMosaic Idealize.ShloMosaic.TcCoe

/-- An index of a rank-2 array is the pair of its coordinates. -/
theorem idx_eq {n0 n1 : ℕ} (i : (⟨2, ![n0, n1]⟩ : Shape).Idx) : i = ix2 (n0 := n0) (n1 := n1) ⟨(i 0).val, (i 0).isLt⟩ ⟨(i 1).val, (i 1).isLt⟩ := by
  funext d
  match d with
  | ⟨0, _⟩ => rfl
  | ⟨1, _⟩ => rfl

/-- The offsets of a whole load are zero. -/
theorem hz : (![0, 0] : Fin 2 → ℕ) = fun _ => 0 := funext fun a => by fin_cases a <;> rfl

/-- The codes along the rows. -/
theorem rowCodes_eq (X : Vec Bits S8192x7168 .bf16) : G1 (F := Bits) X = rowCodes X := by
  funext i
  rw [idx_eq i]
  pointwise [k0_pay9, k0_pay8, k0_pay6, k0_pay5, k0_pay4]
  rw [inv_shift]
  rfl

/-- The scales along the rows. -/
theorem rowScales_eq (X : Vec Bits S8192x7168 .bf16) : G2 (F := Bits) X = rowScales X := by
  funext i
  rw [idx_eq i]
  pointwise [k0_pay10, k0_pay7, k0_pay6, k0_pay5, k0_pay4]
  rw [scale_shift]
  rfl

/-- The same codes before they are laid out as rows. -/
theorem rowCodes3 (X : Vec Bits S8192x7168 .bf16) (a : Fin 8192) (g : Fin 224) (k : Fin 32) :
    k0_pay8 (F := Bits) X (ix3 a g k) = code (rowGroup X a g) (X (ix2 a ⟨g.val * 32 + k.val, by omega⟩)) := by
  pointwise [k0_pay8, k0_pay6, k0_pay5, k0_pay4]
  rw [inv_shift]
  rfl

/-- The same scales before they are laid out as rows. -/
theorem rowScales3 (X : Vec Bits S8192x7168 .bf16) (a : Fin 8192) (g : Fin 224) :
    k0_pay7 (F := Bits) X (ix3 a g (0 : Fin 1)) = scaleOf (word (rowGroup X a g)) := by
  pointwise [k0_pay7, k0_pay6, k0_pay5, k0_pay4]
  rw [scale_shift]
  rfl

/-- The dequantised values along the rows, at an index. -/
theorem rowDq_at (X : Vec Bits S8192x7168 .bf16) (a : Fin 8192) (b : Fin 7168) :
    G5 (F := Bits) X (ix2 a b) = dq (rowGroup X a (rowOf b)) (X (ix2 a b)) := by
  pointwise [k0_pay11]
  rw [rowCodes3, rowScales3]
  unfold dq rowOf
  refine congrArg₂ (FloatOps.mulf (F := Bits)) (congrArg (FloatOps.extf (F := Bits) .bf16 narrow8_16) (congrArg (code _) (congrArg X ?_))) rfl
  refine congrArg (ix2 a) (Fin.ext ?_)
  show b.val / 32 * 32 + b.val % 32 = b.val
  omega

/-- The dequantised values along the rows. -/
theorem rowDq_eq (X : Vec Bits S8192x7168 .bf16) : G5 (F := Bits) X = rowDq X := by
  funext i
  rw [idx_eq i, rowDq_at]
  rfl

/-- The reference's load of its whole operand is the operand. -/
theorem operand (X : Vec Bits S8192x7168 .bf16) : k0_pay18 (F := Bits) X = k0_pay4 X := by
  unfold k0_pay18
  rw [View.ld_unit_zero (S := S8192x7168) hz]

/-- The codes along the columns. -/
theorem colCodes_eq (X : Vec Bits S8192x7168 .bf16) : G3 (F := Bits) X = colCodes X := by
  funext i
  rw [idx_eq i]
  unfold G3
  rw [operand]
  pointwise [k0_pay1, k0_pay15, k0_pay13, k0_pay12, k0_pay4]
  rw [inv_shift]
  rfl

/-- The scales along the columns. -/
theorem colScales_eq (X : Vec Bits S8192x7168 .bf16) : G4 (F := Bits) X = colScales X := by
  funext i
  rw [idx_eq i]
  unfold G4
  rw [operand]
  pointwise [k0_pay2, k0_pay14, k0_pay13, k0_pay12, k0_pay4]
  rw [scale_shift]
  rfl

/-- The same codes before they are laid out as rows. -/
theorem colCodes3 (X : Vec Bits S8192x7168 .bf16) (g : Fin 256) (k : Fin 32) (b : Fin 7168) :
    k0_pay15 (F := Bits) (k0_pay4 X) (ix3 g k b) = code (colGroup X g b) (X (ix2 ⟨g.val * 32 + k.val, by omega⟩ b)) := by
  pointwise [k0_pay15, k0_pay13, k0_pay12, k0_pay4]
  rw [inv_shift]
  rfl

/-- The same scales before they are laid out as rows. -/
theorem colScales3 (X : Vec Bits S8192x7168 .bf16) (g : Fin 256) (b : Fin 7168) :
    k0_pay14 (F := Bits) (k0_pay4 X) (ix3 g (0 : Fin 1) b) = scaleOf (word (colGroup X g b)) := by
  pointwise [k0_pay14, k0_pay13, k0_pay12, k0_pay4]
  rw [scale_shift]
  rfl

/-- The dequantised values along the columns, at an index. -/
theorem colDq_at (X : Vec Bits S8192x7168 .bf16) (a : Fin 8192) (b : Fin 7168) :
    G6 (F := Bits) X (ix2 a b) = dq (colGroup X (colOf a) b) (X (ix2 a b)) := by
  unfold G6
  rw [operand]
  pointwise [k0_pay3, k0_pay16, k0_pay17]
  rw [colCodes3, colScales3]
  unfold dq colOf
  refine congrArg₂ (FloatOps.mulf (F := Bits)) (congrArg (FloatOps.extf (F := Bits) .bf16 narrow8_16) (congrArg (code _) (congrArg X ?_))) rfl
  refine congrArg (fun r => ix2 r b) (Fin.ext ?_)
  show a.val / 32 * 32 + a.val % 32 = a.val
  omega

/-- The dequantised values along the columns. -/
theorem colDq_eq (X : Vec Bits S8192x7168 .bf16) : G6 (F := Bits) X = colDq X := by
  funext i
  rw [idx_eq i, colDq_at]
  rfl

end Cert.Quant.Ref

end
-- ==== Proof.lean ====
module

public import proofs.«01_k».proof.Defs
public import proofs.«01_k».proof.Proof.FrameBits
public import proofs.«01_k».proof.Proof.Val.Chain
public import proofs.«01_k».proof.Proof.Val.Ref
public import proofs.«01_k».proof.Proof.Gen.Kernel.Regions
public import proofs.«01_k».proof.Proof.Gen.ReferenceIdeal.Frame
public import proofs.«01_k».proof.Proof.Gen.ReferenceIdeal.Value
public import proofs.«01_k».proof.Proof.Gen.Quantiser.Frame
public import proofs.«01_k».proof.Proof.Gen.Quantiser.Value
public import proofs.«01_k».proof.Proof.Gen.QuantiserReference.Frame
public import proofs.«01_k».proof.Proof.Gen.QuantiserReference.Value
public import proofs.«01_k».proof.Proof.Quant.Value
public import proofs.«01_k».proof.Proof.Quant.Ref

@[expose] public section

noncomputable section

namespace Cert.Proof

open Idealize.ShloMosaic Idealize.ShloMosaic.TcCoe

/-- From memories agreeing on the arguments, the kernel and the reference both run and end with the same three results over the
    extended reals, their arguments unchanged: each result is one matrix product of an argument with an array dequantised in
    groups of 32, and both programs' results are read as that function of the whole arguments. -/
theorem algebraic : algebraic_KernelIdeal_ReferenceIdeal (hKernelIdeal := Cert.KernelIdeal.Gen.facts) (hReferenceIdeal := Cert.ReferenceIdeal.Gen.facts) := by
  intro m ρ m' ρ' _ hag
  refine ⟨fun c => Cert.KernelIdeal.Run.W8 m c Cert.KernelIdeal.main_v8, fun c => Cert.KernelIdeal.Run.W8 m c Cert.KernelIdeal.main_v6,
    fun c => Cert.KernelIdeal.Run.W8 m c Cert.KernelIdeal.main_v7,
    (θ_run _ _ _).mono (fun _ h c => h.1 c) (Cert.KernelIdeal.Run.run_read m ρ),
    (θ_run _ _ _).mono (fun _ h c => ?_) (Cert.ReferenceIdeal.Value.run m' ρ')⟩
  obtain ⟨h0, h1, h2, h3, h4, h5, h6, h7, h8⟩ := hag c
  obtain ⟨r0, r1, r2, hargs⟩ := h c
  refine ⟨r0.trans ?_, r1.trans ?_, r2.trans ?_, hargs⟩
  · rw [h0, h7, h8]
    exact (Cert.KernelIdeal.Val.Ref.dx_eq _ _ _ _).trans (Cert.KernelIdeal.Val.res_dx m c).symm
  · rw [h1, h3, h4]
    exact (Cert.KernelIdeal.Val.Ref.dw1_eq _ _ _ _).trans (Cert.KernelIdeal.Val.res_dw1 m c).symm
  · rw [h2, h5, h6]
    exact (Cert.KernelIdeal.Val.Ref.dw2_eq _ _ _ _).trans (Cert.KernelIdeal.Val.res_dw2 m c).symm

/-- From memories with the same array, the kernel's quantiser and the reference quantiser both run and end with the same six arrays,
    bit for bit, the array unchanged: the codes, the scales and the dequantised values, grouped along the rows and grouped
    along the columns, each read on both sides as one formula of the array. -/
theorem bitexact : bitexact_Quantiser_QuantiserReference (hQuantiser := Cert.Quantiser.Gen.facts) (hQuantiserReference := Cert.QuantiserReference.Gen.facts) := by
  intro m ρ m' ρ' _ hag
  refine ⟨fun c => Cert.Quant.rowCodes (m ((c.tc : Thread _ _).loc Cert.Quantiser.main_arg0)), fun c => Cert.Quant.rowScales (m ((c.tc : Thread _ _).loc Cert.Quantiser.main_arg0)),
    fun c => Cert.Quant.colCodes (m ((c.tc : Thread _ _).loc Cert.Quantiser.main_arg0)), fun c => Cert.Quant.colScales (m ((c.tc : Thread _ _).loc Cert.Quantiser.main_arg0)),
    fun c => Cert.Quant.rowDq (m ((c.tc : Thread _ _).loc Cert.Quantiser.main_arg0)), fun c => Cert.Quant.colDq (m ((c.tc : Thread _ _).loc Cert.Quantiser.main_arg0)),
    (θ_run _ _ _).mono (fun _ h c => ?_) (Cert.Quantiser.Value.run_blocks m ρ),
    (θ_run _ _ _).mono (fun _ h c => ?_) (Cert.QuantiserReference.Value.run m' ρ')⟩
  · obtain ⟨r0, r1, r2, r3, r4, r5, harg⟩ := h c
    exact ⟨r0.trans (Cert.Quant.Val.final1 m c), r1.trans (Cert.Quant.Val.final2 m c), r2.trans (Cert.Quant.Val.final3 m c),
      r3.trans (Cert.Quant.Val.final4 m c), r4.trans (Cert.Quant.Val.final5 m c), r5.trans (Cert.Quant.Val.final6 m c), harg⟩
  · obtain ⟨r0, r1, r2, r3, r4, r5, harg⟩ := h c
    rw [hag c] at r0 r1 r2 r3 r4 r5
    exact ⟨r0.trans (Cert.Quant.Ref.rowCodes_eq _), r1.trans (Cert.Quant.Ref.rowScales_eq _), r2.trans (Cert.Quant.Ref.colCodes_eq _),
      r3.trans (Cert.Quant.Ref.colScales_eq _), r4.trans (Cert.Quant.Ref.rowDq_eq _), r5.trans (Cert.Quant.Ref.colDq_eq _), harg⟩

/-- Everything claimed: the five programs run, keep their arguments and end quiescent; the idealisation is the kernel's own text;
    the kernel's three results equal the reference's; and the kernel's quantiser equals the reference quantiser bit for bit. -/
theorem claim : Cert.Claim := ⟨Cert.Kernel.Gen.facts, Cert.KernelIdeal.Gen.facts, Cert.ReferenceIdeal.Gen.facts,
  Cert.Quantiser.Gen.facts, Cert.QuantiserReference.Gen.facts,
  quiescent_Kernel, quiescent_KernelIdeal, fun m ρ _ => Cert.ReferenceIdeal.Gen.frame m ρ,
  fun m ρ _ => Cert.Quantiser.Gen.frame m ρ, fun m ρ _ => Cert.QuantiserReference.Gen.frame m ρ, trivial, algebraic, bitexact⟩

end Cert.Proof

end
